-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "score_scale_log2e" .f32 0x3E16C740#32 (((Real.sqrt 96)⁻¹ * (Real.log 2)⁻¹ : ℝ) : EReal)

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S3x640x32x48 : Shape := ⟨4, ![3, 640, 32, 48]⟩
abbrev S3x20x32 : Shape := ⟨3, ![3, 20, 32]⟩
abbrev S3x5x32x96 : Shape := ⟨4, ![3, 5, 32, 96]⟩
abbrev S3x640x4x48 : Shape := ⟨4, ![3, 640, 4, 48]⟩
abbrev S3x20x4 : Shape := ⟨3, ![3, 20, 4]⟩
abbrev S3x640x4x96 : Shape := ⟨4, ![3, 640, 4, 96]⟩
abbrev S3x20x4x96 : Shape := ⟨4, ![3, 20, 4, 96]⟩
abbrev S_ : Shape := ⟨0, ![]⟩

class Facts : Prop where
  bcast_S_S3x20x32 : S_.BroadcastsInDim S3x20x32 (![] : Fin 0 → Fin S3x20x32.rank)
  bcast_S_S3x20x4 : S_.BroadcastsInDim S3x20x4 (![] : Fin 0 → Fin S3x20x4.rank)

variable [Facts]

def fn {F : FTy → Type} [FloatOps F] (main_arg0 : IVec S3x640x32x48 8) (main_arg1 : FVec F S3x20x32 .f32) (main_arg2 : FVec F S3x5x32x96 .bf16) (main_arg3 : IVec S3x640x4x48 8) (main_arg4 : FVec F S3x20x4 .f32) (main_arg5 : FVec F S3x640x4x96 .fp8e4m3) (main_arg6 : FVec F S3x20x4x96 .f32) : IVec S3x20x32 1 × IVec S3x20x4 1 :=
  let main_v0 : FVec F S3x20x32 .f32 := Host.absf main_arg1
  let main_cst : FVec F S_ .f32 := constant S_ .f32 0x7F800000#32
  let main_v1 : FVec F S3x20x32 .f32 := broadcastInDim S3x20x32 ![] bcast_S_S3x20x32 main_cst
  let main_v2 : IVec S3x20x32 1 := cmpf .olt main_v0 main_v1
  let main_v3 : FVec F S3x20x4 .f32 := Host.absf main_arg4
  let main_cst_0 : FVec F S_ .f32 := constant S_ .f32 0x7F800000#32
  let main_v4 : FVec F S3x20x4 .f32 := broadcastInDim S3x20x4 ![] bcast_S_S3x20x4 main_cst_0
  let main_v5 : IVec S3x20x4 1 := cmpf .olt main_v3 main_v4
  (main_v2, main_v5)
-- ==== Kernel.lean ====
abbrev S3x640x32x48 : Shape := ⟨4, ![3, 640, 32, 48]⟩
abbrev S3x20x32 : Shape := ⟨3, ![3, 20, 32]⟩
abbrev S3x5x32x96 : Shape := ⟨4, ![3, 5, 32, 96]⟩
abbrev S3x640x4x48 : Shape := ⟨4, ![3, 640, 4, 48]⟩
abbrev S3x20x4 : Shape := ⟨3, ![3, 20, 4]⟩
abbrev S3x640x4x96 : Shape := ⟨4, ![3, 640, 4, 96]⟩
abbrev S3x20x4x96 : Shape := ⟨4, ![3, 20, 4, 96]⟩
abbrev S3x32x48x640 : Shape := ⟨4, ![3, 32, 48, 640]⟩
abbrev S3x4x48x640 : Shape := ⟨4, ![3, 4, 48, 640]⟩
abbrev S3x4x96x640 : Shape := ⟨4, ![3, 4, 96, 640]⟩
abbrev S3x4x20 : Shape := ⟨3, ![3, 4, 20]⟩
abbrev S3x640x3072 : Shape := ⟨3, ![3, 640, 3072]⟩
abbrev S1x8x48x640 : Shape := ⟨4, ![1, 8, 48, 640]⟩
abbrev S1x20x32 : Shape := ⟨3, ![1, 20, 32]⟩
abbrev S1x5x8x96 : Shape := ⟨4, ![1, 5, 8, 96]⟩
abbrev S1x1x48x640 : Shape := ⟨4, ![1, 1, 48, 640]⟩
abbrev S1x4x20 : Shape := ⟨3, ![1, 4, 20]⟩
abbrev S1x1x96x640 : Shape := ⟨4, ![1, 1, 96, 640]⟩
abbrev S1x20x4x96 : Shape := ⟨4, ![1, 20, 4, 96]⟩
abbrev S1x640x768 : Shape := ⟨3, ![1, 640, 768]⟩
abbrev S20x32x256 : Shape := ⟨3, ![20, 32, 256]⟩
abbrev S640x128 : Shape := ⟨2, ![640, 128]⟩
abbrev S96x640 : Shape := ⟨2, ![96, 640]⟩
abbrev S20x8x128 : Shape := ⟨3, ![20, 8, 128]⟩
abbrev S2x20x128 : Shape := ⟨3, ![2, 20, 128]⟩
abbrev S640x256 : Shape := ⟨2, ![640, 256]⟩
abbrev S128x128 : Shape := ⟨2, ![128, 128]⟩
abbrev S1x128 : Shape := ⟨2, ![1, 128]⟩
abbrev S48x640 : Shape := ⟨2, ![48, 640]⟩
abbrev S12x640 : Shape := ⟨2, ![12, 640]⟩
abbrev S8x640 : Shape := ⟨2, ![8, 640]⟩
abbrev S4x640 : Shape := ⟨2, ![4, 640]⟩
abbrev S24x640 : Shape := ⟨2, ![24, 640]⟩
abbrev S640 : Shape := ⟨1, ![640]⟩
abbrev S1x640 : Shape := ⟨2, ![1, 640]⟩
abbrev S32x640 : Shape := ⟨2, ![32, 640]⟩
abbrev S128x640 : Shape := ⟨2, ![128, 640]⟩
abbrev S1x20x1x96 : Shape := ⟨4, ![1, 20, 1, 96]⟩
abbrev S20x1x96 : Shape := ⟨3, ![20, 1, 96]⟩
abbrev S20x96 : Shape := ⟨2, ![20, 96]⟩
abbrev S108x96 : Shape := ⟨2, ![108, 96]⟩
abbrev S128x96 : Shape := ⟨2, ![128, 96]⟩
abbrev S128x32 : Shape := ⟨2, ![128, 32]⟩
abbrev S96x128 : Shape := ⟨2, ![96, 128]⟩
abbrev S96x128x1 : Shape := ⟨3, ![96, 128, 1]⟩
abbrev S1x1x96x128 : Shape := ⟨4, ![1, 1, 96, 128]⟩
abbrev S1x1x1 : Shape := ⟨3, ![1, 1, 1]⟩
abbrev S8x128 : Shape := ⟨2, ![8, 128]⟩
abbrev S1x8x128 : Shape := ⟨3, ![1, 8, 128]⟩
abbrev S20x32 : Shape := ⟨2, ![20, 32]⟩
abbrev S20x128 : Shape := ⟨2, ![20, 128]⟩
abbrev S20x128x1 : Shape := ⟨3, ![20, 128, 1]⟩
abbrev S1x20x128 : Shape := ⟨3, ![1, 20, 128]⟩
abbrev S1x1x48x128 : Shape := ⟨4, ![1, 1, 48, 128]⟩
abbrev S48x128 : Shape := ⟨2, ![48, 128]⟩
abbrev S12x128 : Shape := ⟨2, ![12, 128]⟩
abbrev S4x128 : Shape := ⟨2, ![4, 128]⟩
abbrev S24x128 : Shape := ⟨2, ![24, 128]⟩
abbrev S1x24x128 : Shape := ⟨3, ![1, 24, 128]⟩
abbrev S20x8x256 : Shape := ⟨3, ![20, 8, 256]⟩
abbrev S1x1x8x96 : Shape := ⟨4, ![1, 1, 8, 96]⟩
abbrev S8x96 : Shape := ⟨2, ![8, 96]⟩
abbrev S120x96 : Shape := ⟨2, ![120, 96]⟩
abbrev S32x128 : Shape := ⟨2, ![32, 128]⟩
abbrev S16x128 : Shape := ⟨2, ![16, 128]⟩
abbrev S96x256 : Shape := ⟨2, ![96, 256]⟩
abbrev S32x256 : Shape := ⟨2, ![32, 256]⟩
abbrev S128x256 : Shape := ⟨2, ![128, 256]⟩
abbrev S1x32x256 : Shape := ⟨3, ![1, 32, 256]⟩
abbrev S1x1x128 : Shape := ⟨3, ![1, 1, 128]⟩
abbrev S128 : Shape := ⟨1, ![128]⟩
abbrev S32x96 : Shape := ⟨2, ![32, 96]⟩
abbrev S32x768 : Shape := ⟨2, ![32, 768]⟩
abbrev S1x32x768 : Shape := ⟨3, ![1, 32, 768]⟩
abbrev S64x128 : Shape := ⟨2, ![64, 128]⟩
abbrev S64x256 : Shape := ⟨2, ![64, 256]⟩
abbrev S256x128 : Shape := ⟨2, ![256, 128]⟩
abbrev S256x256 : Shape := ⟨2, ![256, 256]⟩
abbrev S160x128 : Shape := ⟨2, ![160, 128]⟩
abbrev S160x256 : Shape := ⟨2, ![160, 256]⟩
abbrev S192x128 : Shape := ⟨2, ![192, 128]⟩
abbrev S192x256 : Shape := ⟨2, ![192, 256]⟩
abbrev S224x128 : Shape := ⟨2, ![224, 128]⟩
abbrev S224x256 : Shape := ⟨2, ![224, 256]⟩
abbrev S384x128 : Shape := ⟨2, ![384, 128]⟩
abbrev S384x256 : Shape := ⟨2, ![384, 256]⟩
abbrev S288x128 : Shape := ⟨2, ![288, 128]⟩
abbrev S288x256 : Shape := ⟨2, ![288, 256]⟩
abbrev S96x384 : Shape := ⟨2, ![96, 384]⟩
abbrev S320x128 : Shape := ⟨2, ![320, 128]⟩
abbrev S320x256 : Shape := ⟨2, ![320, 256]⟩
abbrev S352x128 : Shape := ⟨2, ![352, 128]⟩
abbrev S352x256 : Shape := ⟨2, ![352, 256]⟩
abbrev S512x128 : Shape := ⟨2, ![512, 128]⟩
abbrev S512x256 : Shape := ⟨2, ![512, 256]⟩
abbrev S416x128 : Shape := ⟨2, ![416, 128]⟩
abbrev S416x256 : Shape := ⟨2, ![416, 256]⟩
abbrev S96x512 : Shape := ⟨2, ![96, 512]⟩
abbrev S448x128 : Shape := ⟨2, ![448, 128]⟩
abbrev S448x256 : Shape := ⟨2, ![448, 256]⟩
abbrev S480x128 : Shape := ⟨2, ![480, 128]⟩
abbrev S480x256 : Shape := ⟨2, ![480, 256]⟩
abbrev S544x128 : Shape := ⟨2, ![544, 128]⟩
abbrev S544x256 : Shape := ⟨2, ![544, 256]⟩
abbrev S576x128 : Shape := ⟨2, ![576, 128]⟩
abbrev S576x256 : Shape := ⟨2, ![576, 256]⟩
abbrev S608x128 : Shape := ⟨2, ![608, 128]⟩
abbrev S608x256 : Shape := ⟨2, ![608, 256]⟩

abbrev nBuf : Space → Nat
  | .hbm => 12
  | .vmem => 21
  | .smem => 2
  | _ => 0

abbrev bufTy : (tb : Table) → Fin (tcTables nBuf tb) → BufTy
  | .hbm, ⟨0, _⟩ => ⟨S3x640x32x48, .i8⟩
  | .hbm, ⟨1, _⟩ => ⟨S3x20x32, .f32⟩
  | .hbm, ⟨2, _⟩ => ⟨S3x5x32x96, .bf16⟩
  | .hbm, ⟨3, _⟩ => ⟨S3x640x4x48, .i8⟩
  | .hbm, ⟨4, _⟩ => ⟨S3x20x4, .f32⟩
  | .hbm, ⟨5, _⟩ => ⟨S3x640x4x96, .fp8e4m3⟩
  | .hbm, ⟨6, _⟩ => ⟨S3x20x4x96, .f32⟩
  | .hbm, ⟨7, _⟩ => ⟨S3x32x48x640, .i8⟩
  | .hbm, ⟨8, _⟩ => ⟨S3x4x48x640, .i8⟩
  | .hbm, ⟨9, _⟩ => ⟨S3x4x96x640, .fp8e4m3⟩
  | .hbm, ⟨10, _⟩ => ⟨S3x4x20, .f32⟩
  | .hbm, ⟨11, _⟩ => ⟨S3x640x3072, .bf16⟩
  | .local _ .vmem, ⟨0, _⟩ => ⟨S1x8x48x640, .i8⟩
  | .local _ .vmem, ⟨1, _⟩ => ⟨S1x8x48x640, .i8⟩
  | .local _ .vmem, ⟨2, _⟩ => ⟨S1x20x32, .f32⟩
  | .local _ .vmem, ⟨3, _⟩ => ⟨S1x20x32, .f32⟩
  | .local _ .vmem, ⟨4, _⟩ => ⟨S1x5x8x96, .bf16⟩
  | .local _ .vmem, ⟨5, _⟩ => ⟨S1x5x8x96, .bf16⟩
  | .local _ .vmem, ⟨6, _⟩ => ⟨S1x1x48x640, .i8⟩
  | .local _ .vmem, ⟨7, _⟩ => ⟨S1x1x48x640, .i8⟩
  | .local _ .vmem, ⟨8, _⟩ => ⟨S1x1x96x640, .fp8e4m3⟩
  | .local _ .vmem, ⟨9, _⟩ => ⟨S1x1x96x640, .fp8e4m3⟩
  | .local _ .vmem, ⟨10, _⟩ => ⟨S1x20x4x96, .f32⟩
  | .local _ .vmem, ⟨11, _⟩ => ⟨S1x20x4x96, .f32⟩
  | .local _ .vmem, ⟨12, _⟩ => ⟨S1x640x768, .bf16⟩
  | .local _ .vmem, ⟨13, _⟩ => ⟨S1x640x768, .bf16⟩
  | .local _ .vmem, ⟨14, _⟩ => ⟨S20x32x256, .i32⟩
  | .local _ .vmem, ⟨15, _⟩ => ⟨S640x128, .bf16⟩
  | .local _ .vmem, ⟨16, _⟩ => ⟨S96x640, .bf16⟩
  | .local _ .vmem, ⟨17, _⟩ => ⟨S20x8x128, .f32⟩
  | .local _ .vmem, ⟨18, _⟩ => ⟨S2x20x128, .f32⟩
  | .local _ .vmem, ⟨19, _⟩ => ⟨S640x256, .f32⟩
  | .local _ .vmem, ⟨20, _⟩ => ⟨S128x128, .f32⟩
  | .local _ .smem, ⟨0, _⟩ => ⟨S1x4x20, .f32⟩
  | .local _ .smem, ⟨1, _⟩ => ⟨S1x4x20, .f32⟩
  | _, _ => ⟨S3x640x32x48, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_stg4_0 : Ref sig .tc := ⟨.smem, 0, rfl⟩
abbrev cc0_stg4_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 4], ![false, false]⟩

def k0_off1 (i : grid0.Coords) : Fin 4 → Nat :=
  let c0_17 : Index := 0#32
  let c0_18 : Index := 0#32
  let arg1 : BitVec 32 := BitVec.ofNat 32 (i 1).val
  let v74 : Index := Scalar.indexCast arg1
  let c0_19 : Index := 0#32
  ![0, 0, v74.toNat, 0]
def k0_off2 (i : grid0.Coords) : Fin 3 → Nat :=
  let c0_60 : Index := 0#32
  let arg1 : BitVec 32 := BitVec.ofNat 32 (i 1).val
  let v186 : Index := Scalar.indexCast arg1
  let c0_61 : Index := 0#32
  ![0, v186.toNat, 0]
def k0_off3 (i : grid0.Coords) : Fin 3 → Nat :=
  let c0_66 : Index := 0#32
  let arg1 : BitVec 32 := BitVec.ofNat 32 (i 1).val
  let v193 : Index := Scalar.indexCast arg1
  let c1 : Index := 1#32
  ![0, v193.toNat, 1]
def k0_off4 (i : grid0.Coords) : Fin 3 → Nat :=
  let c0_71 : Index := 0#32
  let arg1 : BitVec 32 := BitVec.ofNat 32 (i 1).val
  let v200 : Index := Scalar.indexCast arg1
  let c2 : Index := 2#32
  ![0, v200.toNat, 2]
def k0_off5 (i : grid0.Coords) : Fin 3 → Nat :=
  let c0_76 : Index := 0#32
  let arg1 : BitVec 32 := BitVec.ofNat 32 (i 1).val
  let v207 : Index := Scalar.indexCast arg1
  let c3 : Index := 3#32
  ![0, v207.toNat, 3]
def k0_off6 (i : grid0.Coords) : Fin 3 → Nat :=
  let c0_81 : Index := 0#32
  let arg1 : BitVec 32 := BitVec.ofNat 32 (i 1).val
  let v214 : Index := Scalar.indexCast arg1
  let c4 : Index := 4#32
  ![0, v214.toNat, 4]
def k0_off7 (i : grid0.Coords) : Fin 3 → Nat :=
  let c0_86 : Index := 0#32
  let arg1 : BitVec 32 := BitVec.ofNat 32 (i 1).val
  let v221 : Index := Scalar.indexCast arg1
  let c5 : Index := 5#32
  ![0, v221.toNat, 5]
def k0_off8 (i : grid0.Coords) : Fin 3 → Nat :=
  let c0_91 : Index := 0#32
  let arg1 : BitVec 32 := BitVec.ofNat 32 (i 1).val
  let v228 : Index := Scalar.indexCast arg1
  let c6 : Index := 6#32
  ![0, v228.toNat, 6]
def k0_off9 (i : grid0.Coords) : Fin 3 → Nat :=
  let c0_96 : Index := 0#32
  let arg1 : BitVec 32 := BitVec.ofNat 32 (i 1).val
  let v235 : Index := Scalar.indexCast arg1
  let c7 : Index := 7#32
  ![0, v235.toNat, 7]
def k0_off10 (i : grid0.Coords) : Fin 3 → Nat :=
  let c0_101 : Index := 0#32
  let arg1 : BitVec 32 := BitVec.ofNat 32 (i 1).val
  let v242 : Index := Scalar.indexCast arg1
  let c8 : Index := 8#32
  ![0, v242.toNat, 8]
def k0_off11 (i : grid0.Coords) : Fin 3 → Nat :=
  let c0_106 : Index := 0#32
  let arg1 : BitVec 32 := BitVec.ofNat 32 (i 1).val
  let v249 : Index := Scalar.indexCast arg1
  let c9 : Index := 9#32
  ![0, v249.toNat, 9]
def k0_off12 (i : grid0.Coords) : Fin 3 → Nat :=
  let c0_111 : Index := 0#32
  let arg1 : BitVec 32 := BitVec.ofNat 32 (i 1).val
  let v256 : Index := Scalar.indexCast arg1
  let c10 : Index := 10#32
  ![0, v256.toNat, 10]
def k0_off13 (i : grid0.Coords) : Fin 3 → Nat :=
  let c0_116 : Index := 0#32
  let arg1 : BitVec 32 := BitVec.ofNat 32 (i 1).val
  let v263 : Index := Scalar.indexCast arg1
  let c11 : Index := 11#32
  ![0, v263.toNat, 11]
def k0_off14 (i : grid0.Coords) : Fin 3 → Nat :=
  let c0_121 : Index := 0#32
  let arg1 : BitVec 32 := BitVec.ofNat 32 (i 1).val
  let v270 : Index := Scalar.indexCast arg1
  let c12 : Index := 12#32
  ![0, v270.toNat, 12]
def k0_off15 (i : grid0.Coords) : Fin 3 → Nat :=
  let c0_126 : Index := 0#32
  let arg1 : BitVec 32 := BitVec.ofNat 32 (i 1).val
  let v277 : Index := Scalar.indexCast arg1
  let c13 : Index := 13#32
  ![0, v277.toNat, 13]
def k0_off16 (i : grid0.Coords) : Fin 3 → Nat :=
  let c0_131 : Index := 0#32
  let arg1 : BitVec 32 := BitVec.ofNat 32 (i 1).val
  let v284 : Index := Scalar.indexCast arg1
  let c14 : Index := 14#32
  ![0, v284.toNat, 14]
def k0_off17 (i : grid0.Coords) : Fin 3 → Nat :=
  let c0_136 : Index := 0#32
  let arg1 : BitVec 32 := BitVec.ofNat 32 (i 1).val
  let v291 : Index := Scalar.indexCast arg1
  let c15 : Index := 15#32
  ![0, v291.toNat, 15]
def k0_off18 (i : grid0.Coords) : Fin 3 → Nat :=
  let c0_141 : Index := 0#32
  let arg1 : BitVec 32 := BitVec.ofNat 32 (i 1).val
  let v298 : Index := Scalar.indexCast arg1
  let c16 : Index := 16#32
  ![0, v298.toNat, 16]
def k0_off19 (i : grid0.Coords) : Fin 3 → Nat :=
  let c0_146 : Index := 0#32
  let arg1 : BitVec 32 := BitVec.ofNat 32 (i 1).val
  let v305 : Index := Scalar.indexCast arg1
  let c17 : Index := 17#32
  ![0, v305.toNat, 17]
def k0_off20 (i : grid0.Coords) : Fin 3 → Nat :=
  let c0_151 : Index := 0#32
  let arg1 : BitVec 32 := BitVec.ofNat 32 (i 1).val
  let v312 : Index := Scalar.indexCast arg1
  let c18 : Index := 18#32
  ![0, v312.toNat, 18]
def k0_off21 (i : grid0.Coords) : Fin 3 → Nat :=
  let c0_156 : Index := 0#32
  let arg1 : BitVec 32 := BitVec.ofNat 32 (i 1).val
  let v319 : Index := Scalar.indexCast arg1
  let c19 : Index := 19#32
  ![0, v319.toNat, 19]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x48x640 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x5x8x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x48x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .smem S1x4x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x96x640 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x20x4x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x640x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "score_scale_log2e" => some (((Real.sqrt 96)⁻¹ * (Real.log 2)⁻¹ : ℝ) : EReal)
  | _ => none
-- ==== ReferenceIdeal.lean ====
abbrev S3x640x32x48 : Shape := ⟨4, ![3, 640, 32, 48]⟩
abbrev S3x20x32 : Shape := ⟨3, ![3, 20, 32]⟩
abbrev S3x5x32x96 : Shape := ⟨4, ![3, 5, 32, 96]⟩
abbrev S3x640x4x48 : Shape := ⟨4, ![3, 640, 4, 48]⟩
abbrev S3x20x4 : Shape := ⟨3, ![3, 20, 4]⟩
abbrev S3x640x4x96 : Shape := ⟨4, ![3, 640, 4, 96]⟩
abbrev S3x20x4x96 : Shape := ⟨4, ![3, 20, 4, 96]⟩
abbrev S_ : Shape := ⟨0, ![]⟩
abbrev S3x640x4x8x48 : Shape := ⟨5, ![3, 640, 4, 8, 48]⟩
abbrev S3x4x8x640x48 : Shape := ⟨5, ![3, 4, 8, 640, 48]⟩
abbrev S3x4x640x48 : Shape := ⟨4, ![3, 4, 640, 48]⟩
abbrev S3x20x1x4 : Shape := ⟨4, ![3, 20, 1, 4]⟩
abbrev S3x20x32x4 : Shape := ⟨4, ![3, 20, 32, 4]⟩
abbrev S3x640x4 : Shape := ⟨3, ![3, 640, 4]⟩
abbrev S3x4x640 : Shape := ⟨3, ![3, 4, 640]⟩
abbrev S3x20x1x32 : Shape := ⟨4, ![3, 20, 1, 32]⟩
abbrev S3x20x32x32 : Shape := ⟨4, ![3, 20, 32, 32]⟩
abbrev S3x640x4x8 : Shape := ⟨4, ![3, 640, 4, 8]⟩
abbrev S3x4x8x640 : Shape := ⟨4, ![3, 4, 8, 640]⟩
abbrev S3x5x4x8x96 : Shape := ⟨5, ![3, 5, 4, 8, 96]⟩
abbrev S3x5x4x8x48 : Shape := ⟨5, ![3, 5, 4, 8, 48]⟩
abbrev S3x4x640x5x8 : Shape := ⟨5, ![3, 4, 640, 5, 8]⟩
abbrev S3x4x8x5x640 : Shape := ⟨5, ![3, 4, 8, 5, 640]⟩
abbrev S3x4x8x5x1x640 : Shape := ⟨6, ![3, 4, 8, 5, 1, 640]⟩
abbrev S3x4x8x5x128x640 : Shape := ⟨6, ![3, 4, 8, 5, 128, 640]⟩
abbrev S3x4x8x640x640 : Shape := ⟨5, ![3, 4, 8, 640, 640]⟩
abbrev S3x4x1x1x640 : Shape := ⟨5, ![3, 4, 1, 1, 640]⟩
abbrev S3x4x8x640x1 : Shape := ⟨5, ![3, 4, 8, 640, 1]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S3x20x1x4x96 : Shape := ⟨5, ![3, 20, 1, 4, 96]⟩
abbrev S3x20x32x4x96 : Shape := ⟨5, ![3, 20, 32, 4, 96]⟩
abbrev S3x4x640x96 : Shape := ⟨4, ![3, 4, 640, 96]⟩
abbrev S12x640x96 : Shape := ⟨3, ![12, 640, 96]⟩
abbrev S12x5120x640 : Shape := ⟨3, ![12, 5120, 640]⟩
abbrev S3x640x3072 : Shape := ⟨3, ![3, 640, 3072]⟩
abbrev S12x5120x96 : Shape := ⟨3, ![12, 5120, 96]⟩
abbrev S3x4x8x640x96 : Shape := ⟨5, ![3, 4, 8, 640, 96]⟩
abbrev S3x640x4x8x96 : Shape := ⟨5, ![3, 640, 4, 8, 96]⟩

abbrev nBuf : Space → Nat
  | .hbm => 107
  | .vmem => 4
  | .smem => 0
  | _ => 0

abbrev bufTy : (tb : Table) → Fin (tcTables nBuf tb) → BufTy
  | .hbm, ⟨0, _⟩ => ⟨S3x640x32x48, .i8⟩
  | .hbm, ⟨1, _⟩ => ⟨S3x20x32, .f32⟩
  | .hbm, ⟨2, _⟩ => ⟨S3x5x32x96, .bf16⟩
  | .hbm, ⟨3, _⟩ => ⟨S3x640x4x48, .i8⟩
  | .hbm, ⟨4, _⟩ => ⟨S3x20x4, .f32⟩
  | .hbm, ⟨5, _⟩ => ⟨S3x640x4x96, .fp8e4m3⟩
  | .hbm, ⟨6, _⟩ => ⟨S3x20x4x96, .f32⟩
  | .hbm, ⟨7, _⟩ => ⟨S3x640x32x48, .i8⟩
  | .hbm, ⟨8, _⟩ => ⟨S3x640x32x48, .i32⟩
  | .hbm, ⟨9, _⟩ => ⟨S_, .i32⟩
  | .hbm, ⟨10, _⟩ => ⟨S3x640x32x48, .i32⟩
  | .hbm, ⟨11, _⟩ => ⟨S3x640x32x48, .i32⟩
  | .hbm, ⟨12, _⟩ => ⟨S_, .i32⟩
  | .hbm, ⟨13, _⟩ => ⟨S3x640x32x48, .i32⟩
  | .hbm, ⟨14, _⟩ => ⟨S3x640x32x48, .i32⟩
  | .hbm, ⟨15, _⟩ => ⟨S_, .i32⟩
  | .hbm, ⟨16, _⟩ => ⟨S3x640x32x48, .i32⟩
  | .hbm, ⟨17, _⟩ => ⟨S3x640x32x48, .i32⟩
  | .hbm, ⟨18, _⟩ => ⟨S3x640x32x48, .bf16⟩
  | .hbm, ⟨19, _⟩ => ⟨S3x640x32x48, .bf16⟩
  | .hbm, ⟨20, _⟩ => ⟨S3x640x4x48, .i8⟩
  | .hbm, ⟨21, _⟩ => ⟨S3x640x4x48, .i32⟩
  | .hbm, ⟨22, _⟩ => ⟨S_, .i32⟩
  | .hbm, ⟨23, _⟩ => ⟨S3x640x4x48, .i32⟩
  | .hbm, ⟨24, _⟩ => ⟨S3x640x4x48, .i32⟩
  | .hbm, ⟨25, _⟩ => ⟨S_, .i32⟩
  | .hbm, ⟨26, _⟩ => ⟨S3x640x4x48, .i32⟩
  | .hbm, ⟨27, _⟩ => ⟨S3x640x4x48, .i32⟩
  | .hbm, ⟨28, _⟩ => ⟨S_, .i32⟩
  | .hbm, ⟨29, _⟩ => ⟨S3x640x4x48, .i32⟩
  | .hbm, ⟨30, _⟩ => ⟨S3x640x4x48, .i32⟩
  | .hbm, ⟨31, _⟩ => ⟨S3x640x4x48, .bf16⟩
  | .hbm, ⟨32, _⟩ => ⟨S3x640x4x48, .bf16⟩
  | .hbm, ⟨33, _⟩ => ⟨S3x640x4x8x48, .bf16⟩
  | .hbm, ⟨34, _⟩ => ⟨S3x4x8x640x48, .bf16⟩
  | .hbm, ⟨35, _⟩ => ⟨S3x640x4x8x48, .bf16⟩
  | .hbm, ⟨36, _⟩ => ⟨S3x4x8x640x48, .bf16⟩
  | .hbm, ⟨37, _⟩ => ⟨S3x4x640x48, .bf16⟩
  | .hbm, ⟨38, _⟩ => ⟨S3x4x640x48, .bf16⟩
  | .hbm, ⟨39, _⟩ => ⟨S3x20x1x4, .f32⟩
  | .hbm, ⟨40, _⟩ => ⟨S3x20x32x4, .f32⟩
  | .hbm, ⟨41, _⟩ => ⟨S3x640x4, .f32⟩
  | .hbm, ⟨42, _⟩ => ⟨S_, .f32⟩
  | .hbm, ⟨43, _⟩ => ⟨S_, .f32⟩
  | .hbm, ⟨44, _⟩ => ⟨S3x640x4, .f32⟩
  | .hbm, ⟨45, _⟩ => ⟨S3x640x4, .f32⟩
  | .hbm, ⟨46, _⟩ => ⟨S3x4x640, .f32⟩
  | .hbm, ⟨47, _⟩ => ⟨S3x20x1x32, .f32⟩
  | .hbm, ⟨48, _⟩ => ⟨S3x20x32x32, .f32⟩
  | .hbm, ⟨49, _⟩ => ⟨S3x640x4x8, .f32⟩
  | .hbm, ⟨50, _⟩ => ⟨S3x4x8x640, .f32⟩
  | .hbm, ⟨51, _⟩ => ⟨S3x5x4x8x96, .bf16⟩
  | .hbm, ⟨52, _⟩ => ⟨S3x5x4x8x48, .bf16⟩
  | .hbm, ⟨53, _⟩ => ⟨S3x4x640x5x8, .f32⟩
  | .hbm, ⟨54, _⟩ => ⟨S3x4x8x5x640, .f32⟩
  | .hbm, ⟨55, _⟩ => ⟨S3x5x4x8x48, .bf16⟩
  | .hbm, ⟨56, _⟩ => ⟨S3x4x640x5x8, .f32⟩
  | .hbm, ⟨57, _⟩ => ⟨S3x4x8x5x640, .f32⟩
  | .hbm, ⟨58, _⟩ => ⟨S3x4x8x5x640, .f32⟩
  | .hbm, ⟨59, _⟩ => ⟨S3x4x8x5x1x640, .f32⟩
  | .hbm, ⟨60, _⟩ => ⟨S3x4x8x5x128x640, .f32⟩
  | .hbm, ⟨61, _⟩ => ⟨S3x4x8x640x640, .f32⟩
  | .hbm, ⟨62, _⟩ => ⟨S3x4x8x640x640, .f32⟩
  | .hbm, ⟨63, _⟩ => ⟨S3x4x8x640x640, .f32⟩
  | .hbm, ⟨64, _⟩ => ⟨S3x4x8x640x640, .f32⟩
  | .hbm, ⟨65, _⟩ => ⟨S3x4x1x1x640, .f32⟩
  | .hbm, ⟨66, _⟩ => ⟨S3x4x8x640x1, .f32⟩
  | .hbm, ⟨67, _⟩ => ⟨S3x4x8x640x640, .f32⟩
  | .hbm, ⟨68, _⟩ => ⟨S3x4x8x640x640, .f32⟩
  | .hbm, ⟨69, _⟩ => ⟨S3x4x8x640x640, .f32⟩
  | .hbm, ⟨70, _⟩ => ⟨S3x4x8x640x640, .f32⟩
  | .hbm, ⟨71, _⟩ => ⟨S3x4x8x640x640, .f32⟩
  | .hbm, ⟨72, _⟩ => ⟨S640, .i32⟩
  | .hbm, ⟨73, _⟩ => ⟨S1x640, .i32⟩
  | .hbm, ⟨74, _⟩ => ⟨S640, .i32⟩
  | .hbm, ⟨75, _⟩ => ⟨S640x1, .i32⟩
  | .hbm, ⟨76, _⟩ => ⟨S640x640, .i32⟩
  | .hbm, ⟨77, _⟩ => ⟨S640x640, .i32⟩
  | .hbm, ⟨78, _⟩ => ⟨S640x640, .i1⟩
  | .hbm, ⟨79, _⟩ => ⟨S_, .f32⟩
  | .hbm, ⟨80, _⟩ => ⟨S_, .f32⟩
  | .hbm, ⟨81, _⟩ => ⟨S3x4x8x640x640, .i1⟩
  | .hbm, ⟨82, _⟩ => ⟨S3x4x8x640x640, .f32⟩
  | .hbm, ⟨83, _⟩ => ⟨S3x4x8x640x640, .f32⟩
  | .hbm, ⟨84, _⟩ => ⟨S_, .f32⟩
  | .hbm, ⟨85, _⟩ => ⟨S3x4x8x640, .f32⟩
  | .hbm, ⟨86, _⟩ => ⟨S_, .f32⟩
  | .hbm, ⟨87, _⟩ => ⟨S3x4x8x640, .f32⟩
  | .hbm, ⟨88, _⟩ => ⟨S3x4x8x640, .f32⟩
  | .hbm, ⟨89, _⟩ => ⟨S3x4x8x640x1, .f32⟩
  | .hbm, ⟨90, _⟩ => ⟨S3x4x8x640x640, .f32⟩
  | .hbm, ⟨91, _⟩ => ⟨S3x4x8x640x640, .f32⟩
  | .hbm, ⟨92, _⟩ => ⟨S3x4x8x640x640, .f32⟩
  | .hbm, ⟨93, _⟩ => ⟨S_, .f32⟩
  | .hbm, ⟨94, _⟩ => ⟨S3x4x8x640, .f32⟩
  | .hbm, ⟨95, _⟩ => ⟨S3x4x8x640x1, .f32⟩
  | .hbm, ⟨96, _⟩ => ⟨S3x4x8x640x640, .f32⟩
  | .hbm, ⟨97, _⟩ => ⟨S3x4x8x640x640, .f32⟩
  | .hbm, ⟨98, _⟩ => ⟨S3x20x1x4x96, .f32⟩
  | .hbm, ⟨99, _⟩ => ⟨S3x20x32x4x96, .f32⟩
  | .hbm, ⟨100, _⟩ => ⟨S3x640x4x96, .f32⟩
  | .hbm, ⟨101, _⟩ => ⟨S3x4x640x96, .fp8e4m3⟩
  | .hbm, ⟨102, _⟩ => ⟨S12x640x96, .fp8e4m3⟩
  | .hbm, ⟨103, _⟩ => ⟨S3x4x640x96, .f32⟩
  | .hbm, ⟨104, _⟩ => ⟨S12x640x96, .f32⟩
  | .hbm, ⟨105, _⟩ => ⟨S12x5120x640, .f32⟩
  | .hbm, ⟨106, _⟩ => ⟨S3x640x3072, .bf16⟩
  | .local _ .vmem, ⟨0, _⟩ => ⟨S12x5120x640, .f32⟩
  | .local _ .vmem, ⟨1, _⟩ => ⟨S12x640x96, .fp8e4m3⟩
  | .local _ .vmem, ⟨2, _⟩ => ⟨S12x640x96, .f32⟩
  | .local _ .vmem, ⟨3, _⟩ => ⟨S3x640x3072, .bf16⟩
  | _, _ => ⟨S3x640x32x48, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v65 : Ref sig .tc := ⟨.hbm, 83, rfl⟩
abbrev main_cst_6 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_8 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12x5120x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x640x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x640x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Model.lean ====
module

public import proofs.«01_k».proof.Proof.Gen.KernelIdeal.Frame

/-! # The kernel body as short parameterised functions

The printed body is unrolled over query tiles, key groups, row chunks and lane quads. Here each of these is a
parameter: the pieces every scratch buffer is written with, and what the body stores for query tile `t`. -/

@[expose] public section

set_option maxRecDepth 16384

noncomputable section

namespace Cert.KernelIdeal.Model

open Idealize.ShloMosaic Idealize.SL.Sem

variable {F : FTy → Type} [FloatOps F] [Named F]

/-- What the body reads: its grid position's key head, its input blocks as loads, its scratch views. -/
structure Env (F : FTy → Type) [FloatOps F] [Named F] where
  g : ℕ
  hg : g < 4
  gw : BitVec 32
  q : (B : LoadRect S1x8x48x640) → B.shape.Idx → Elt F .i8
  qs : (B : LoadRect S1x20x32) → B.shape.Idx → Elt F .f32
  qm : (B : LoadRect S1x5x8x96) → B.shape.Idx → Elt F .bf16
  k : (B : LoadRect S1x1x48x640) → B.shape.Idx → Elt F .i8
  ks : (B : LoadRect S1x4x20) → B.shape.Idx → Elt F .f32
  v : (B : LoadRect S1x1x96x640) → B.shape.Idx → Elt F .fp8e4m3
  vs : (B : LoadRect S1x20x4x96) → B.shape.Idx → Elt F .f32
  rhsW : View sig .tc .vmem S20x32x256 .i32
  kkW : View sig .tc .vmem S640x128 .bf16
  vwW : View sig .tc .vmem S96x640 .bf16
  ktW : View sig .tc .vmem S20x8x128 .f32
  qrW : View sig .tc .vmem S2x20x128 .f32
  btW : View sig .tc .vmem S640x256 .f32
  qmW : View sig .tc .vmem S128x128 .f32

/-! ## Totals of the partial operations: at parameters out of range, anything -/

/-- A load of a scratch buffer, from the pieces written into it. -/
def rd {s : Shape} {e : EltTy} (v : View sig .tc .vmem s e) (L : List (View.Piece (Elt F) s e)) (off size : Fin s.rank → ℕ) :
    (⟨s.rank, size⟩ : Shape).Idx → Elt F e :=
  if h : ∀ a, off a + size a ≤ s.size a then v.readCov L (Rect.unit off size h).toLoadRect
  else fun _ => Classical.arbitrary _

/-- A load of an input block at an offset. -/
def ldAt {s : Shape} {e : EltTy} (ld : (B : LoadRect s) → B.shape.Idx → Elt F e) (off size : Fin s.rank → ℕ) :
    (⟨s.rank, size⟩ : Shape).Idx → Elt F e :=
  if h : ∀ a, off a + size a ≤ s.size a then ld (Rect.unit off size h).toLoadRect else fun _ => Classical.arbitrary _

/-- The piece that one store writes. -/
def pc {s : Shape} {e : EltTy} (off size : Fin s.rank → ℕ) (w : (⟨s.rank, size⟩ : Shape).Idx → Elt F e) :
    List (View.Piece (Elt F) s e) :=
  if h : ∀ a, off a + size a ≤ s.size a then [⟨Rect.unit off size h, w⟩] else []

/-- The pieces `f 0, f 1, …, f (n - 1)`, the last first. -/
def pcs {α : Type} (f : ℕ → List α) : ℕ → List α
  | 0 => []
  | n + 1 => f n ++ pcs f n

/-- A slice of a matrix at an offset. -/
def slc {s : Shape} (t : Shape) (off : Fin s.rank → ℕ) (x : FVec F s .f32) : FVec F t .f32 :=
  if h : s.Slices off t then extractStridedSlice t off x h else fun _ => Scalar.ofBits .f32 0#32

/-! ## Lanes, codes, keys -/

/-- The head of a quad a lane belongs to: its number divided by 32. -/
def lanes : IVec S1x128 32 :=
  have v0 : IVec S1x128 32 := iota .tc S1x128 32 [1] (by decide)
  have v1 : IVec S1x128 32 := broadcast S1x128 32#32
  have v2 : IVec S1x128 32 := divsi v0 v1
  have v3 : IVec S1x128 32 := broadcast S1x128 0#32
  have v4 : IVec S1x128 1 := cmpi .sgt v0 v3
  have v5 : IVec S1x128 32 := extui 32 v4 (by decide)
  have v6 : IVec S1x128 32 := broadcast S1x128 0#32
  have v7 : IVec S1x128 1 := cmpi .slt v0 v6
  have v8 : IVec S1x128 32 := extui 32 v7 (by decide)
  have v9 : IVec S1x128 32 := subi v5 v8
  let v10 : BitVec 1 := Scalar.cmpi .sgt 32#32 0#32
  let v11 : BitVec 32 := Scalar.extui v10
  let v12 : BitVec 1 := Scalar.cmpi .slt 32#32 0#32
  let v13 : BitVec 32 := Scalar.extui v12
  let v14 : BitVec 32 := Scalar.subi v11 v13
  have v15 : IVec S1x128 32 := broadcast S1x128 v14
  have v16 : IVec S1x128 1 := cmpi .ne v9 v15
  have v17 : IVec S1x128 32 := broadcast S1x128 32#32
  have v18 : IVec S1x128 32 := remsi v0 v17
  have v19 : IVec S1x128 32 := broadcast S1x128 0#32
  have v20 : IVec S1x128 1 := cmpi .ne v18 v19
  have v21 : IVec S1x128 1 := andi v16 v20
  have v22 : IVec S1x128 32 := broadcast S1x128 1#32
  have v23 : IVec S1x128 32 := subi v2 v22
  select v21 v23 v2

/-- `x`'s lane `base + lanes` of each row. -/
def laneIdx (n : ℕ) (base : BitVec 32) : IVec ⟨2, ![n, 128]⟩ 32 :=
  have u : IVec S1x128 32 := shapeCast S1x128 (addi (broadcast S1x128 base) lanes) (by decide)
  have v : IVec ⟨2, ![n, 128]⟩ 32 := if h : S1x128.Broadcasts ⟨2, ![n, 128]⟩ then broadcastTo ⟨2, ![n, 128]⟩ u h else fun _ => 0#32
  have w : IVec ⟨2, ![n, 128]⟩ 32 := select (cmpi .slt v (broadcast ⟨2, ![n, 128]⟩ 0#32)) (addi v (broadcast ⟨2, ![n, 128]⟩ 128#32)) v
  if h : (⟨2, ![n, 128]⟩ : Shape).ShapeCasts ⟨3, ![n, 128, 1]⟩ ∧ (⟨3, ![n, 128, 1]⟩ : Shape).ShapeCasts ⟨2, ![n, 128]⟩ then
    shapeCast ⟨2, ![n, 128]⟩ (shapeCast ⟨3, ![n, 128, 1]⟩ w h.1) h.2 else fun _ => 0#32

/-- The low nibbles of the words' bytes, each with its sign bit flipped. -/
def lo (n : ℕ) (x : IVec ⟨2, ![12, n]⟩ 32) : IVec ⟨2, ![12, n]⟩ 32 :=
  andi (xori x (broadcast ⟨2, ![12, n]⟩ 2290649224#32)) (broadcast ⟨2, ![12, n]⟩ 252645135#32)

/-- The high nibbles of the words' bytes, each with its sign bit flipped. -/
def hi (n : ℕ) (x : IVec ⟨2, ![12, n]⟩ 32) : IVec ⟨2, ![12, n]⟩ 32 :=
  andi (shrui (xori x (broadcast ⟨2, ![12, n]⟩ 2290649224#32)) (broadcast ⟨2, ![12, n]⟩ 4#32)) (broadcast ⟨2, ![12, n]⟩ 252645135#32)

/-- The keys' flipped nibbles, read as fp8 numbers, in the kernel's order of the channels. -/
def keyCodes (v25 : Vec F S1x1x48x640 .i8) : FVec F S96x640 .bf16 :=
  have v27 : IVec S12x640 32 := bitcast S12x640 32 (shapeCast S48x640 v25 (by decide)) (by decide)
  have v40 : IVec S24x640 32 := concatenate S24x640 0 [⟨S8x640, extractStridedSlice S8x640 ![0, 0] (lo 640 v27) (by decide)⟩,
    ⟨S8x640, extractStridedSlice S8x640 ![0, 0] (hi 640 v27) (by decide)⟩, ⟨S4x640, extractStridedSlice S4x640 ![8, 0] (lo 640 v27) (by decide)⟩,
    ⟨S4x640, extractStridedSlice S4x640 ![8, 0] (hi 640 v27) (by decide)⟩] (show Shape.Concatenates [S8x640, S8x640, S4x640, S4x640] S24x640 0 from by decide)
  extf .bf16 (bitcastToFloat .fp8e4m3 (bitcast S96x640 8 v40 (by decide))) (by decide)

/-- The keys as the first product's left operand: their codes, and two columns that hold minus the sum of the codes. -/
def keys (v42 : FVec F S96x640 .bf16) : FVec F S640x128 .bf16 :=
  have v44 : FVec F S96x640 .bf16 := subf v42 (broadcast S96x640 (Scalar.ofBits .bf16 0x3C80#16))
  have v45 : FVec F S96x640 .f32 := extf .f32 v44 (by decide)
  have v46 : FVec F S640 .f32 := multiReduction .add [0] S640 v45 0x00000000#32 (by decide) (.inl rfl) rfl
  have v49 : FVec F S1x640 .f32 := subf (broadcast S1x640 (Scalar.ofBits .f32 0x00000000#32)) (shapeCast S1x640 v46 (by decide))
  have v52 : FVec F S1x640 .f32 := roundeven (mulf v49 (broadcast S1x640 (Scalar.ofBits .f32 0x42000000#32)))
  have v54 : FVec F S1x640 .f32 := mulf v52 (broadcast S1x640 (Scalar.ofBits .f32 0x3D000000#32))
  have v55 : IVec S32x640 32 := iota .tc S32x640 32 [0] (by decide)
  have v57 : IVec S32x640 1 := cmpi .eq v55 (broadcast S32x640 0#32)
  have v59 : IVec S32x640 1 := cmpi .eq v55 (broadcast S32x640 1#32)
  have v60 : FVec F S1x640 .f32 := subf v49 v54
  have v62 : FVec F S32x640 .f32 := broadcastTo S32x640 (shapeCast S1x640 v60 (by decide)) (by decide)
  have v64 : FVec F S32x640 .f32 := select v59 v62 (broadcast S32x640 (Scalar.ofBits .f32 0x00000000#32))
  have v66 : FVec F S32x640 .f32 := broadcastTo S32x640 (shapeCast S1x640 v54 (by decide)) (by decide)
  have v67 : FVec F S32x640 .f32 := select v57 v66 v64
  have v68 : FVec F S128x640 .f32 := concatenate S128x640 0 [⟨S96x640, v45⟩, ⟨S32x640, v67⟩] (show Shape.Concatenates [S96x640, S32x640] S128x640 0 from by decide)
  shapeCast S640x128 (transpose S640x128 [1, 0] (truncf .bf16 v68 (by decide)) (by decide)) (by decide)

variable (E : Env F)

/-- What is stored into the buffer of the keys. -/
def kkL : List (View.Piece (Elt F) S640x128 .bf16) :=
  pc (s := S640x128) ![0, 0] ![640, 128] (keys (keyCodes (ldAt E.k ![0, 0, 0, 0] ![1, 1, 48, 640])))

/-! ## Values -/

/-- The values' scales over 256, a column for each key group. -/
def valScale (v75 : Vec F S1x20x1x96 .f32) : FVec F S96x128 .f32 :=
  have v77 : FVec F S20x96 .f32 := shapeCast S20x96 (shapeCast S20x1x96 v75 (by decide)) (by decide)
  have v79 : FVec F S20x96 .f32 := mulf v77 (broadcast S20x96 (Scalar.ofBits .f32 0x3B800000#32))
  have v81 : FVec F S128x96 .f32 := concatenate S128x96 0 [⟨S20x96, v79⟩, ⟨S108x96, broadcast S108x96 (Scalar.ofBits .f32 0x00000000#32)⟩] (show Shape.Concatenates [S20x96, S108x96] S128x96 0 from by decide)
  have v83 : FVec F S128x128 .f32 := concatenate S128x128 1 [⟨S128x96, v81⟩, ⟨S128x32, broadcast S128x32 (Scalar.ofBits .f32 0x00000000#32)⟩] (show Shape.Concatenates [S128x96, S128x32] S128x128 1 from by decide)
  extractStridedSlice S96x128 ![0, 0] (transpose S128x128 [1, 0] v83 (by decide)) (by decide)

/-- 128 values times their scales. -/
def valBlock (base : BitVec 32) (v85 : FVec F S96x128 .f32) (v98 : Vec F S1x1x96x128 .fp8e4m3) : FVec F S96x128 .bf16 :=
  have v97 : FVec F S96x128 .f32 := dynamicGather 1 v85 (laneIdx 96 base)
  have v100 : FVec F S96x128 .bf16 := extf .bf16 (shapeCast S96x128 v98 (by decide)) (by decide)
  shapeCast S96x128 (mulf v100 (truncf .bf16 v97 (by decide))) (by decide)

/-- The load of the values' scales stays in its block. -/
theorem vs_inb : ∀ a, (![0, 0, E.g, 0] : Fin 4 → ℕ) a + (![1, 20, 1, 96] : Fin 4 → ℕ) a ≤ S1x20x4x96.size a := by
  have := E.hg
  intro a
  fin_cases a <;> simp [S1x20x4x96] <;> omega

/-- The values' scales of the key head. -/
def vs : Vec F S1x20x1x96 .f32 := E.vs (Rect.unit (s := S1x20x4x96) ![0, 0, E.g, 0] ![1, 20, 1, 96] (vs_inb E)).toLoadRect

/-- What is stored into the buffer of the scaled values. -/
def vwL : List (View.Piece (Elt F) S96x640 .bf16) :=
  pcs (fun i => pc (s := S96x640) ![0, 128 * i] ![96, 128]
    (valBlock (BitVec.ofNat 32 (4 * i)) (valScale (vs E)) (ldAt E.v ![0, 0, 0, 128 * i] ![1, 1, 96, 128]))) 5

/-! ## Scales -/

/-- The load of a key scale stays in its block. -/
theorem ks_inb {kg : ℕ} (h : kg < 20) : ∀ a, (![0, E.g, kg] : Fin 3 → ℕ) a + (![1, 1, 1] : Fin 3 → ℕ) a ≤ S1x4x20.size a := by
  have := E.hg
  intro a
  fin_cases a <;> simp [S1x4x20] <;> omega

/-- The key scale of a key group. -/
def ks (kg : ℕ) : F .f32 :=
  if h : kg < 20 then E.ks (Rect.unit (s := S1x4x20) ![0, E.g, kg] ![1, 1, 1] (ks_inb E h)).toLoadRect (Shape.Idx.first (by decide : 0 < (⟨3, ![1, 1, 1]⟩ : Shape).numel))
  else Scalar.ofBits .f32 0#32

/-- The scores' scale over the logarithm of two. -/
def ktC : F .f32 := Named.named κ "score_scale_log2e" 0x3E16C740#32

/-- What is stored into the buffer of the key scales, each times the scores' factor. -/
def ktL : List (View.Piece (Elt F) S20x8x128 .f32) :=
  pcs (fun kg => pc (s := S20x8x128) ![kg, 0, 0] ![1, 8, 128]
    (shapeCast S1x8x128 (broadcast S8x128 (Scalar.mulf (ks E kg) ktC)) (by decide))) 20

/-- The queries' scales, padded to 128 columns. -/
def qsPad (v326 : Vec F S1x20x32 .f32) : FVec F S20x128 .f32 :=
  concatenate S20x128 1 [⟨S20x32, shapeCast S20x32 v326 (by decide)⟩, ⟨S20x96, broadcast S20x96 (Scalar.ofBits .f32 0x00000000#32)⟩] (show Shape.Concatenates [S20x32, S20x96] S20x128 1 from by decide)

/-- What is stored into the buffer of the queries' scales, a lane for each query. -/
def qrL : List (View.Piece (Elt F) S2x20x128 .f32) :=
  pcs (fun c => pc (s := S2x20x128) ![c, 0, 0] ![1, 20, 128]
    (shapeCast S1x20x128 (dynamicGather 1 (qsPad (ldAt E.qs ![0, 0, 0] ![1, 20, 32]))
      (laneIdx 20 (Scalar.addi (Scalar.muli E.gw 8#32) (BitVec.ofNat 32 (4 * c))))) (by decide))) 2

/-! ## Query codes -/

/-- The packed codes of a head's 128 queries, as words. -/
def qWords (i h : ℕ) : IVec S12x128 32 :=
  bitcast S12x128 32 (shapeCast S48x128 (ldAt E.q ![0, h, 0, 128 * i] ![1, 1, 48, 128] : Vec F S1x1x48x128 .i8) (by decide)) (by decide)

/-- The lanes whose group of 32 has the bit `d`. -/
def upper (d : BitVec 32) : IVec S12x128 1 :=
  broadcastTo S12x128 (shapeCast S1x128 (cmpi .ne (andi lanes (broadcast S1x128 d)) (broadcast S1x128 0#32)) (by decide)) (by decide)

/-- One exchange between the heads `a` and `b`: the new `a` and the new `b`. -/
def swapA (d sh : BitVec 32) (a b : IVec S12x128 32) : IVec S12x128 32 := select (upper d) (dynamicRotate 1 sh none b (by decide)) a

/-- The other half of the exchange: the upper lanes keep `b`, the lower lanes take `a` rotated. -/
def swapB (d sh : BitVec 32) (a b : IVec S12x128 32) : IVec S12x128 32 := select (upper d) b (dynamicRotate 1 sh none a (by decide))

/-- Two rounds of exchanges between four heads: word `j` holds query tile `j`, a group of 32 lanes for each head. -/
def heads (x0 x1 x2 x3 : IVec S12x128 32) (j : ℕ) : IVec S12x128 32 :=
  have y0 := swapA 1#32 32#32 x0 x1
  have y1 := swapB 1#32 96#32 x0 x1
  have y2 := swapA 1#32 32#32 x2 x3
  have y3 := swapB 1#32 96#32 x2 x3
  match j with
  | 0 => swapA 2#32 64#32 y0 y2
  | 1 => swapA 2#32 64#32 y1 y3
  | 2 => swapB 2#32 64#32 y0 y2
  | _ => swapB 2#32 64#32 y1 y3

/-- The queries' flipped nibbles, in the kernel's order of the channels. -/
def qCodes (x : IVec S12x128 32) : IVec S1x24x128 32 :=
  shapeCast S1x24x128 (concatenate S24x128 0 [⟨S8x128, extractStridedSlice S8x128 ![0, 0] (lo 128 x) (by decide)⟩,
    ⟨S8x128, extractStridedSlice S8x128 ![0, 0] (hi 128 x) (by decide)⟩, ⟨S4x128, extractStridedSlice S4x128 ![8, 0] (lo 128 x) (by decide)⟩,
    ⟨S4x128, extractStridedSlice S4x128 ![8, 0] (hi 128 x) (by decide)⟩] (show Shape.Concatenates [S8x128, S8x128, S4x128, S4x128] S24x128 0 from by decide)) (by decide)

/-- Piece `n = 8·i + 4·c + j`: block `i`'s tile `j`, quad `c`. -/
def rhsL : List (View.Piece (Elt F) S20x32x256 .i32) :=
  pc (s := S20x32x256) ![0, 24, 0] ![20, 8, 256] (shapeCast S20x8x256 (broadcast S20x8x256 134744072#32 : IVec S20x8x256 32) (by decide)) ++
  pcs (fun n => pc (s := S20x32x256) ![4 * (n / 8) + n % 4, 0, 128 * (n / 4 % 2)] ![1, 24, 128]
    (qCodes (heads (qWords E (n / 8) (4 * (n / 4 % 2))) (qWords E (n / 8) (4 * (n / 4 % 2) + 1)) (qWords E (n / 8) (4 * (n / 4 % 2) + 2))
      (qWords E (n / 8) (4 * (n / 4 % 2) + 3)) (n % 4)))) 40

/-! ## The mean's part of the scores -/

/-- The query means of eight heads, padded to a square and transposed. -/
def qmPad (v1556 : Vec F S1x1x8x96 .bf16) : FVec F S128x128 .f32 :=
  have v1558 : FVec F S8x96 .f32 := extf .f32 (shapeCast S8x96 v1556 (by decide)) (by decide)
  have v1560 : FVec F S128x96 .f32 := concatenate S128x96 0 [⟨S8x96, v1558⟩, ⟨S120x96, broadcast S120x96 (Scalar.ofBits .f32 0x00000000#32)⟩] (show Shape.Concatenates [S8x96, S120x96] S128x96 0 from by decide)
  have v1562 : FVec F S128x128 .f32 := concatenate S128x128 1 [⟨S128x96, v1560⟩, ⟨S128x32, broadcast S128x32 (Scalar.ofBits .f32 0x00000000#32)⟩] (show Shape.Concatenates [S128x96, S128x32] S128x128 1 from by decide)
  shapeCast S128x128 (transpose S128x128 [1, 0] v1562 (by decide)) (by decide)

/-- The mean buffer's pieces after the first `i` blocks. -/
def qmL : ℕ → List (View.Piece (Elt F) S128x128 .f32) :=
  pcs fun i => pc (s := S128x128) ![0, 0] ![128, 128] (qmPad (ldAt E.qm ![0, i, 0, 0] ![1, 1, 8, 96]))

/-- Every second row, from row `b` on, is a row of the square. -/
theorem qm_inb {b : ℕ} (hb : b < 2) : ∀ a : Fin 2, (![48, 128] : Fin 2 → ℕ) a = 0 ∨ (![b, 0] : Fin 2 → ℕ) a + (![2, 1] : Fin 2 → ℕ) a * ((![48, 128] : Fin 2 → ℕ) a - 1) < S128x128.size a := by
  obtain rfl | rfl : b = 0 ∨ b = 1 := by omega
  · decide
  · decide

/-- The even or the odd channels of a block's query means. -/
def qmRows (i : ℕ) (b : ℕ) (hb : b < 2) : Vec F S48x128 .f32 :=
  E.qmW.readCov (qmL E (i + 1)) ({ off := ![b, 0], size := ![48, 128], stride := ![2, 1], inb := qm_inb hb } : LoadRect S128x128)

/-- The second product's right operand: the query means, repeated for each query of a head. -/
def qmRep (v1567 v1568 : FVec F S48x128 .f32) : FVec F S128x256 .bf16 :=
  have v1573 : FVec F S96x128 .f32 := concatenate S96x128 0 [⟨S32x128, extractStridedSlice S32x128 ![0, 0] v1567 (by decide)⟩,
    ⟨S32x128, extractStridedSlice S32x128 ![0, 0] v1568 (by decide)⟩, ⟨S16x128, extractStridedSlice S16x128 ![32, 0] v1567 (by decide)⟩,
    ⟨S16x128, extractStridedSlice S16x128 ![32, 0] v1568 (by decide)⟩] (show Shape.Concatenates [S32x128, S32x128, S16x128, S16x128] S96x128 0 from by decide)
  have v1598 : FVec F S96x256 .f32 := concatenate S96x256 1 [⟨S96x128, dynamicGather 1 v1573 (laneIdx 96 0#32)⟩, ⟨S96x128, dynamicGather 1 v1573 (laneIdx 96 4#32)⟩] (show Shape.Concatenates [S96x128, S96x128] S96x256 1 from by decide)
  have v1600 : FVec F S128x256 .f32 := concatenate S128x256 0 [⟨S96x256, v1598⟩, ⟨S32x256, broadcast S32x256 (Scalar.ofBits .f32 0x00000000#32)⟩] (show Shape.Concatenates [S96x256, S32x256] S128x256 0 from by decide)
  truncf .bf16 v1600 (by decide)

/-- The first `n` rows of the keys. -/
def kkRows (n : ℕ) : FVec F ⟨2, ![n, 128]⟩ .bf16 := rd (s := S640x128) E.kkW (kkL E) ![0, 0] ![n, 128]

/-- The key scale of a key group, in every lane. -/
def ktRow (kg : ℕ) : FVec F S8x128 .f32 := shapeCast S8x128 (rd (s := S20x8x128) E.ktW (ktL E) ![kg, 0, 0] ![1, 8, 128]) (by decide)

/-- The product of the keys and the query means. -/
def btMat (i : ℕ) : FVec F ⟨2, ![128 * (i + 1), 256]⟩ .f32 :=
  matmul (DotDims.plain (128 * (i + 1)) 128 256) none (kkRows E (128 * (i + 1))) (qmRep (qmRows E i 0 (by decide)) (qmRows E i 1 (by decide)))
    (constant ⟨2, ![128 * (i + 1), 256]⟩ .f32 0x00000000#32)

/-- The mean part's pieces after the first `i` blocks; piece `n = 2·(row / 8) + c` of a block is its chunk at `row`, quad `c`. -/
def btL : ℕ → List (View.Piece (Elt F) S640x256 .f32)
  | 0 => []
  | i + 1 => pcs (fun n => pc (s := S640x256) ![8 * (n / 2), 128 * (n % 2)] ![8, 128]
      (shapeCast S8x128 (mulf (slc S8x128 ![8 * (n / 2), 128 * (n % 2)] (btMat E i))
        (mulf (ktRow E (n / 8)) (broadcast S8x128 (Scalar.ofBits .f32 0x44000000#32)))) (by decide))) (32 * (i + 1)) ++ btL i

/-! ## One query tile -/

/-- The product of the keys and the queries of tile `t`. -/
def aMat (t : ℕ) : FVec F ⟨2, ![32 * (t + 1), 256]⟩ .f32 :=
  matmul (DotDims.plain (32 * (t + 1)) 128 256) none (kkRows E (32 * (t + 1)))
    (bitcastToFloat .fp8e4m3 (bitcast S128x256 8 (shapeCast S32x256 (rd (s := S20x32x256) E.rhsW (rhsL E) ![t, 0, 0] ![1, 32, 256] : IVec S1x32x256 32) (by decide)) (by decide)))
    (constant ⟨2, ![32 * (t + 1), 256]⟩ .f32 0x00000000#32)

/-- The queries' scales of tile `t`, over the square of the codes' unit. -/
def qRow (t c : ℕ) : FVec F S8x128 .f32 :=
  mulf (broadcastTo S8x128 (shapeCast S1x128 (shapeCast S1x128 (rd (s := S2x20x128) E.qrW (qrL E) ![c, t, 0] ![1, 1, 128]) (by decide)) (by decide)) (by decide))
    (broadcast S8x128 (Scalar.ofBits .f32 0x48800000#32))

/-- The causal mask inside a tile's own key group. -/
def mask (r : ℕ) : IVec S8x128 1 :=
  cmpi .sle (addi (iota .tc S8x128 32 [0] (by decide)) (broadcast S8x128 (BitVec.ofNat 32 (8 * r)))) (andi (iota .tc S8x128 32 [1] (by decide)) (broadcast S8x128 31#32))

/-- The scaled scores of key chunk `(kg, r)`, masked on the tile's diagonal. -/
def chunk (t c kg r : ℕ) : FVec F S8x128 .f32 :=
  have x : FVec F S8x128 .f32 := addf (mulf (slc S8x128 ![32 * kg + 8 * r, 128 * c] (aMat E t)) (mulf (ktRow E kg) (qRow E t c)))
    (rd (s := S640x256) E.btW (btL E (t / 4 + 1)) ![32 * kg + 8 * r, 128 * c] ![8, 128])
  if kg = t then select (mask r) x (broadcast S8x128 (Scalar.ofBits .f32 0xFF800000#32)) else x

/-- `f 0, f 1, …, f n` under `op`, from the left. -/
def foldl1 (op : FVec F S8x128 .f32 → FVec F S8x128 .f32 → FVec F S8x128 .f32) (f : ℕ → FVec F S8x128 .f32) : ℕ → FVec F S8x128 .f32
  | 0 => f 0
  | n + 1 => op (foldl1 op f n) (f (n + 1))

/-- The maximum of each query's scores. -/
def rowMax (t c : ℕ) : FVec F S8x128 .f32 :=
  have m (r : ℕ) : FVec F S8x128 .f32 := foldl1 maximumf (fun kg => chunk E t c kg r) t
  broadcastTo S8x128 (shapeCast S1x128 (multiReduction .maximumf [0] S128 (maximumf (maximumf (m 0) (m 1)) (maximumf (m 2) (m 3))) 0xFF800000#32 (by decide) (.inl rfl) rfl) (by decide)) (by decide)

/-- The powers of two of the scores less their maximum. -/
def expChunk (t c kg r : ℕ) : FVec F S8x128 .f32 := exp2 (subf (chunk E t c kg r) (rowMax E t c))

/-- 256 over the sum of the powers, clipped. -/
def factor (t c : ℕ) : FVec F S8x128 .f32 :=
  have s (r : ℕ) : FVec F S8x128 .f32 := foldl1 addf (fun kg => expChunk E t c kg r) t
  have l : FVec F S1x128 .f32 := shapeCast S1x128 (multiReduction .add [0] S128 (addf (addf (s 0) (s 1)) (addf (s 2) (s 3))) 0x00000000#32 (by decide) (.inl rfl) rfl) (by decide)
  broadcastTo S8x128 (minimumf (broadcast S1x128 (Scalar.ofBits .f32 0x43E00000#32))
    (maximumf (broadcast S1x128 (Scalar.ofBits .f32 0x00000000#32)) (divf (broadcast S1x128 (Scalar.ofBits .f32 0x43800000#32)) l))) (by decide)

/-- The fp8 probabilities of a key group. -/
def probGroup (t c kg : ℕ) : FVec F S32x128 .fp8e4m3 :=
  truncf .fp8e4m3 (concatenate S32x128 0 [⟨S8x128, mulf (expChunk E t c kg 0) (factor E t c)⟩, ⟨S8x128, mulf (expChunk E t c kg 1) (factor E t c)⟩,
    ⟨S8x128, mulf (expChunk E t c kg 2) (factor E t c)⟩, ⟨S8x128, mulf (expChunk E t c kg 3) (factor E t c)⟩] (show Shape.Concatenates [S8x128, S8x128, S8x128, S8x128] S32x128 0 from by decide)) (by decide)

/-- The probabilities of a key group: zeros after the tile. -/
def probPart (t c kg : ℕ) : FVec F S32x128 .fp8e4m3 :=
  if kg ≤ t then probGroup E t c kg else broadcast S32x128 (Scalar.ofBits .fp8e4m3 0x00#8)

/-- The probabilities of four heads, key group after key group. -/
def probQuad (t c : ℕ) : FVec F ⟨2, ![128 * (t / 4 + 1), 128]⟩ .fp8e4m3 :=
  have xs : List ((s : Shape) × (s.Idx → F .fp8e4m3)) := List.ofFn fun n : Fin (4 * (t / 4 + 1)) => ⟨S32x128, probPart E t c n⟩
  if h : Shape.Concatenates (xs.map (·.1)) ⟨2, ![128 * (t / 4 + 1), 128]⟩ 0 then concatenate ⟨2, ![128 * (t / 4 + 1), 128]⟩ 0 xs h
  else fun _ => Scalar.ofBits .fp8e4m3 0#8

/-- The probabilities of all eight heads. -/
def probs (t : ℕ) : FVec F ⟨2, ![128 * (t / 4 + 1), 256]⟩ .fp8e4m3 :=
  if h : Shape.Concatenates [⟨2, ![128 * (t / 4 + 1), 128]⟩, ⟨2, ![128 * (t / 4 + 1), 128]⟩] ⟨2, ![128 * (t / 4 + 1), 256]⟩ 1 then
    concatenate ⟨2, ![128 * (t / 4 + 1), 256]⟩ 1 [⟨⟨2, ![128 * (t / 4 + 1), 128]⟩, probQuad E t 0⟩, ⟨⟨2, ![128 * (t / 4 + 1), 128]⟩, probQuad E t 1⟩] h
  else fun _ => Scalar.ofBits .fp8e4m3 0#8

/-- The product of the scaled values and the probabilities. -/
def outMat (t : ℕ) : FVec F S128x256 .bf16 :=
  have o : FVec F S96x256 .f32 := matmul (DotDims.plain 96 (128 * (t / 4 + 1)) 256) none
    (rd (s := S96x640) E.vwW (vwL E) ![0, 0] ![96, 128 * (t / 4 + 1)]) (probs E t) (constant S96x256 .f32 0x00000000#32)
  truncf .bf16 (concatenate S128x256 0 [⟨S96x256, o⟩, ⟨S32x256, broadcast S32x256 (Scalar.ofBits .f32 0x00000000#32)⟩] (show Shape.Concatenates [S96x256, S32x256] S128x256 0 from by decide)) (by decide)

/-- The output of the first four heads, a row for each query. -/
def outQuad0 (x : FVec F S128x256 .bf16) : FVec F S128x128 .bf16 := transpose S128x128 [1, 0] (extractStridedSlice S128x128 ![0, 0] x (by decide)) (by decide)

/-- The output of the last four heads, a row for each query. -/
def outQuad1 (x : FVec F S128x256 .bf16) : FVec F S128x128 .bf16 := transpose S128x128 [1, 0] (extractStridedSlice S128x128 ![0, 128] x (by decide)) (by decide)

/-- What the body stores for query tile `t`. -/
def tile (t : ℕ) : FVec F S1x32x768 .bf16 :=
  have x := outQuad0 (outMat E t)
  have y := outQuad1 (outMat E t)
  shapeCast S1x32x768 (concatenate S32x768 1 [⟨S32x96, extractStridedSlice S32x96 ![0, 0] x (by decide)⟩, ⟨S32x96, extractStridedSlice S32x96 ![32, 0] x (by decide)⟩,
    ⟨S32x96, extractStridedSlice S32x96 ![64, 0] x (by decide)⟩, ⟨S32x96, extractStridedSlice S32x96 ![96, 0] x (by decide)⟩,
    ⟨S32x96, extractStridedSlice S32x96 ![0, 0] y (by decide)⟩, ⟨S32x96, extractStridedSlice S32x96 ![32, 0] y (by decide)⟩,
    ⟨S32x96, extractStridedSlice S32x96 ![64, 0] y (by decide)⟩, ⟨S32x96, extractStridedSlice S32x96 ![96, 0] y (by decide)⟩] (show Shape.Concatenates [S32x96, S32x96, S32x96, S32x96, S32x96, S32x96, S32x96, S32x96] S32x768 1 from by decide)) (by decide)

/-- The pieces of the first `n` query tiles. -/
def outL (n : ℕ) : List (View.Piece (Elt F) S1x640x768 .bf16) :=
  pcs (fun t => pc (s := S1x640x768) ![0, 32 * t, 0] ![1, 32, 768] (tile E t)) n

end Cert.KernelIdeal.Model
-- ==== Proof.Bytes.lean ====
module

public import Idealize.ShloMosaic.PureOps.Ideal
public import Idealize.ShloMosaic.Lib.Pointwise
public import Idealize.ShloMosaic.Lib.BitcastFour

/-! # Packed nibbles: bytes of words, and what a biased nibble denotes as an fp8 number -/

@[expose] public section

set_option maxRecDepth 16384

noncomputable section

namespace Cert.KernelIdeal.Bytes

open Idealize.ShloMosaic

/-- Byte `j` of a word. -/
def byte (w : BitVec 32) (j : ℕ) : BitVec 8 := w.extractLsb' (8 * j) 8

/-- The low and the high nibble of a byte, each plus 8. -/
def loB (b : BitVec 8) : BitVec 8 := (b ^^^ 0x88#8) &&& 0x0f#8

/-- The high nibble with its sign bit flipped. -/
def hiB (b : BitVec 8) : BitVec 8 := ((b ^^^ 0x88#8) >>> 4) &&& 0x0f#8

/-- The flipped nibble, high or low. -/
def nib (h : Bool) (b : BitVec 8) : BitVec 8 := if h then hiB b else loB b

/-- The signed nibbles of a byte. -/
def lowI (b : BitVec 8) : ℤ := (((b.signExtend 32) <<< 28).sshiftRight 28).toInt

/-- The high nibble as a signed number. -/
def highI (b : BitVec 8) : ℤ := ((b.signExtend 32).sshiftRight 4).toInt

/-- The signed nibble, high or low. -/
def nibI (h : Bool) (b : BitVec 8) : ℤ := if h then highI b else lowI b

/-- A bit of a byte of a word is a bit of the word. -/
theorem byte_getLsbD (w : BitVec 32) (j q : ℕ) (hq : q < 8) : (byte w j).getLsbD q = w.getLsbD (8 * j + q) := by
  simp [byte, hq]

/-- The low nibbles of a word, byte by byte. -/
theorem byte_lo (w : BitVec 32) (j : ℕ) (hj : j < 4) : byte ((w ^^^ 2290649224#32) &&& 252645135#32) j = loB (byte w j) := by
  apply BitVec.eq_of_getLsbD_eq
  intro q hq
  rw [byte_getLsbD _ _ _ hq, loB, BitVec.getLsbD_and, BitVec.getLsbD_xor, BitVec.getLsbD_and, BitVec.getLsbD_xor, byte_getLsbD _ _ _ hq]
  congr 1
  · congr 1
    exact (by decide : ∀ j < 4, ∀ q < 8, (2290649224#32).getLsbD (8 * j + q) = (0x88#8).getLsbD q) j hj q hq
  · exact (by decide : ∀ j < 4, ∀ q < 8, (252645135#32).getLsbD (8 * j + q) = (0x0f#8).getLsbD q) j hj q hq

/-- The high nibbles of a word, byte by byte. -/
theorem byte_hi (w : BitVec 32) (j : ℕ) (hj : j < 4) : byte (((w ^^^ 2290649224#32) >>> 4) &&& 252645135#32) j = hiB (byte w j) := by
  apply BitVec.eq_of_getLsbD_eq
  intro q hq
  rw [byte_getLsbD _ _ _ hq, hiB, BitVec.getLsbD_and, BitVec.getLsbD_and,
    (by decide : ∀ j < 4, ∀ q < 8, (252645135#32).getLsbD (8 * j + q) = decide (q < 4)) j hj q hq,
    (by decide : ∀ q < 8, (0x0f#8).getLsbD q = decide (q < 4)) q hq]
  by_cases h4 : q < 4
  · rw [BitVec.getLsbD_ushiftRight, BitVec.getLsbD_ushiftRight, BitVec.getLsbD_xor, BitVec.getLsbD_xor,
      byte_getLsbD _ _ _ (by omega), show 4 + (8 * j + q) = 8 * j + (4 + q) by omega,
      (by decide : ∀ j < 4, ∀ q < 4, (2290649224#32).getLsbD (8 * j + (4 + q)) = (0x88#8).getLsbD (4 + q)) j hj q h4]
  · simp [h4]

/-- A flipped nibble is the signed nibble plus 8. -/
theorem nib_toNat (h : Bool) : ∀ b : BitVec 8, ((nib h b).toNat : ℤ) = nibI h b + 8 := by
  cases h <;> decide +kernel

/-- A flipped nibble is less than 16. -/
theorem nib_lt (h : Bool) : ∀ b : BitVec 8, (nib h b).toNat < 16 := by
  cases h <;> decide +kernel

/-- The fp8 number whose bits are `n < 16` is `n / 512`. -/
theorem ofBits_small (b : BitVec 8) (hb : b.toNat < 16) : Ideal.ofBits .fp8e4m3 b = ((((b.toNat : ℤ) : ℝ) * (1 / 512) : ℝ) : EReal) := by
  obtain ⟨n, hn, rfl⟩ : ∃ n, n < 16 ∧ b = BitVec.ofNat 8 n := ⟨b.toNat, hb, by simp⟩
  have : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by omega
  rcases this with rfl | rfl | rfl | rfl | rfl | rfl | rfl | rfl | rfl | rfl | rfl | rfl | rfl | rfl | rfl | rfl <;>
    simp [Ideal.ofBits, Ideal.e4m3fn, -EReal.coe_mul] <;> norm_num

/-- Read as an fp8 number, a flipped nibble is the signed nibble plus 8, over 512. -/
theorem ofBits_nib (h : Bool) (b : BitVec 8) :
    Ideal.ofBits .fp8e4m3 (nib h b) = (((((nibI h b : ℤ) : ℝ) + 8) * (1 / 512) : ℝ) : EReal) := by
  rw [ofBits_small _ (nib_lt h b), nib_toNat]
  push_cast
  rfl

/-! ## Bytes under the bitcasts between 8- and 32-bit rows -/

/-- Four rows of bytes cast to one row of words: a word's bytes are the rows. -/
theorem byte_bitcast_8_32 {R r n : Nat} (x : (⟨2, ![R, n]⟩ : Shape).Idx → BitVec 8)
    (h : (⟨2, ![R, n]⟩ : Shape).Bitcasts 8 ⟨2, ![r, n]⟩ 32) (a : Fin r) (l : Fin n) (j : ℕ) (hj : j < 4) (p : Fin R)
    (hp : p.val = 4 * a.val + j) :
    byte (bitcast ⟨2, ![r, n]⟩ 32 x h (ix2 a l)) j = x (ix2 p l) := by
  apply BitVec.eq_of_getLsbD_eq
  intro q hq
  rw [byte_getLsbD _ _ _ hq, ix2_eq_valueIdx, bitcast_8_32_getLsbD_ix2 x h a l (8 * j + q) (by omega) p (by omega), ix2_eq_valueIdx]
  congr 1
  omega

/-- One row of words cast to four rows of bytes: the rows are the words' bytes. -/
theorem bitcast_32_8_ix2 {R r n : Nat} (x : (⟨2, ![r, n]⟩ : Shape).Idx → BitVec 32)
    (h : (⟨2, ![r, n]⟩ : Shape).Bitcasts 32 ⟨2, ![R, n]⟩ 8) (a : Fin r) (l : Fin n) (j : ℕ) (hj : j < 4) (p : Fin R)
    (hp : p.val = 4 * a.val + j) :
    bitcast ⟨2, ![R, n]⟩ 8 x h (ix2 p l) = byte (x (ix2 a l)) j := by
  apply BitVec.eq_of_getLsbD_eq
  intro q hq
  have hrow : (⟨2, ![R, n]⟩ : Shape).row (ix2 p l) = p.val := rfl
  rw [byte_getLsbD _ _ _ hq, bitcast_getLsbD x h _ q hq (by decide)]
  have e1 : ((⟨2, ![R, n]⟩ : Shape).row (ix2 p l) * 8 + q) % 32 = 8 * j + q := by rw [hrow, hp]; omega
  have e2 : ((⟨2, ![R, n]⟩ : Shape).row (ix2 p l) * 8 + q) / 32 = a.val := by rw [hrow, hp]; omega
  rw [e1]
  congr 2
  funext c
  match c with
  | ⟨0, _⟩ => exact Fin.ext ((h.srcIdx_row _ _ _ ⟨0, Nat.zero_lt_two⟩ rfl).trans e2)
  | ⟨1, _⟩ => exact Fin.ext (h.srcIdx_other _ _ _ ⟨1, Nat.one_lt_two⟩ (by show ¬ 1 + 2 = 2; omega))

end Cert.KernelIdeal.Bytes
-- ==== Proof.Codes.lean ====
module

public import proofs.«01_k».proof.Proof.Model
public import proofs.«01_k».proof.Proof.Bytes
public import Idealize.ShloMosaic.Lib.Pointwise.IndexVar

/-! # The nibble codes of keys and queries, row by row -/

@[expose] public section

set_option maxRecDepth 16384

noncomputable section

namespace Cert.KernelIdeal.Model

open Idealize.ShloMosaic Idealize.SL.Sem Cert.KernelIdeal.Bytes

/-- Of code row `d`: does it hold the high nibbles, and of which row of bytes. -/
def hiRow (d : ℕ) : Bool := decide (32 ≤ d ∧ d < 64 ∨ 80 ≤ d)

/-- The row of packed bytes that holds the kernel's channel `d`. -/
def byteRow (d : ℕ) : ℕ := if d < 32 then d else if d < 64 then d - 32 else if d < 80 then d - 32 else d - 48

/-- The row of words that holds the kernel's row of words `a` after unpacking. -/
def wordRow (a : ℕ) : ℕ := if a < 8 then a else if a < 16 then a - 8 else if a < 20 then a - 8 else a - 12

/-- There are 48 rows of bytes. -/
theorem byteRow_lt {d : ℕ} (h : d < 96) : byteRow d < 48 := by unfold byteRow; split_ifs <;> omega

/-- There are 12 rows of words. -/
theorem wordRow_lt {a : ℕ} (h : a < 24) : wordRow a < 12 := by unfold wordRow; split_ifs <;> omega

/-- The row of bytes from the row of words. -/
theorem byteRow_eq {a j : ℕ} (h : a < 24) (hj : j < 4) : byteRow (4 * a + j) = 4 * wordRow a + j := by
  unfold byteRow wordRow; split_ifs <;> omega

/-- Whether a channel is a high nibble, from its row of words. -/
theorem hiRow_eq {a j : ℕ} (hj : j < 4) : hiRow (4 * a + j) = decide (8 ≤ a ∧ a < 16 ∨ 20 ≤ a) := by
  unfold hiRow; apply decide_eq_decide.2; omega

/-- The low nibbles of an array of words, byte by byte. -/
theorem byte_loV (n : ℕ) (x : IVec ⟨2, ![12, n]⟩ 32) (i : (⟨2, ![12, n]⟩ : Shape).Idx) (j : ℕ) (hj : j < 4) :
    byte (lo n x i) j = loB (byte (x i) j) := by
  rw [← byte_lo _ j hj]; rfl

/-- The high nibbles of an array of words, byte by byte. -/
theorem byte_hiV (n : ℕ) (x : IVec ⟨2, ![12, n]⟩ 32) (i : (⟨2, ![12, n]⟩ : Shape).Idx) (j : ℕ) (hj : j < 4) :
    byte (hi n x i) j = hiB (byte (x i) j) := by
  rw [← byte_hi _ j hj]; rfl

/-- The nibble of a row of words, case by case. -/
theorem nib_of {a : ℕ} {b : Bool} (h : b = decide (8 ≤ a ∧ a < 16 ∨ 20 ≤ a)) (x : BitVec 8) :
    nib b x = if a < 8 then loB x else if a < 16 then hiB x else if a < 20 then loB x else hiB x := by
  subst h
  unfold nib
  by_cases h1 : a < 8
  · simp [h1, show ¬ (8 ≤ a) by omega, show ¬ (20 ≤ a) by omega]
  by_cases h2 : a < 16
  · simp [h1, h2]
  by_cases h3 : a < 20
  · simp [h1, h2, h3]
  · simp [h1, h2, h3]

set_option maxHeartbeats 1000000 in
/-- The key codes: the fp8 number of a nibble of the head's bytes. -/
theorem keyCodes_apply (v25 : Vec Ideal S1x1x48x640 .i8) (d : Fin 96) (l : Fin 640) :
    keyCodes v25 (ix2 d l)
      = Ideal.ofBits .fp8e4m3 (nib (hiRow d) (v25 (ix4 0 0 ⟨byteRow d, byteRow_lt d.2⟩ l) : BitVec 8)) := by
  obtain ⟨a, j, ha, hj, hd⟩ : ∃ a j, a < 24 ∧ j < 4 ∧ d.val = 4 * a + j := ⟨d / 4, d % 4, by omega, by omega, by omega⟩
  unfold keyCodes
  rw [extf_apply, bitcastToFloat_apply, bitcast_32_8_ix2 _ _ ⟨a, ha⟩ l j hj d hd]
  show Ideal.ofBits .fp8e4m3 _ = _
  congr 1
  have hw : ∀ (p : Fin 12) (q : Fin 48), q.val = 4 * p.val + j →
      byte (bitcast S12x640 32 (shapeCast S48x640 v25 (by decide)) (by decide) (ix2 p l)) j = v25 (ix4 0 0 q l) := by
    intro p q hq
    rw [byte_bitcast_8_32 _ _ p l j hj q hq]
    pointwise
  have e : byteRow d.val = 4 * wordRow a + j := by rw [hd, byteRow_eq ha hj]
  rw [← hw ⟨wordRow a, wordRow_lt ha⟩ ⟨byteRow d, byteRow_lt d.2⟩ e,
    nib_of (show hiRow d = _ by rw [hd]; exact hiRow_eq hj)]
  generalize bitcast S12x640 32 (shapeCast S48x640 v25 (by decide)) (by decide) = x
  pointwise
  by_cases h1 : a < 8
  · have e1 : wordRow a = a := by simp [wordRow, h1]
    simp [h1, e1, byte_loV _ _ _ _ hj]
  by_cases h2 : a < 16
  · have e1 : wordRow a = a - 8 := by simp [wordRow, h1, h2]
    simp [h1, h2, e1, byte_hiV _ _ _ _ hj, show a - 8 < 8 by omega]
  by_cases h3 : a < 20
  · have e1 : wordRow a = a - 8 := by simp [wordRow, h1, h2, h3]
    have e2 : 8 + (a - 8 - 8) = a - 8 := by omega
    simp [h1, h2, h3, e1, e2, byte_loV _ _ _ _ hj, show ¬ a - 8 < 8 by omega, show a - 8 - 8 < 4 by omega]
  · have e1 : wordRow a = a - 12 := by simp [wordRow, h1, h2, h3]
    have e2 : 8 + (a - 8 - 8 - 4) = a - 12 := by omega
    simp [h1, h2, h3, e1, e2, byte_hiV _ _ _ _ hj, show ¬ a - 8 < 8 by omega, show ¬ a - 8 - 8 < 4 by omega]

set_option maxHeartbeats 1000000 in
/-- A byte of the query codes' words. -/
theorem byte_qCodes (x : IVec S12x128 32) (a j : ℕ) (ha : a < 24) (hj : j < 4) (l : Fin 128) (z : Fin 1) :
    byte (qCodes x (ix3 z ⟨a, ha⟩ l)) j
      = nib (hiRow (4 * a + j)) (byte (x (ix2 ⟨wordRow a, wordRow_lt ha⟩ l)) j) := by
  rw [nib_of (hiRow_eq hj)]
  pointwise [qCodes]
  by_cases h1 : a < 8
  · have e1 : wordRow a = a := by simp [wordRow, h1]
    simp [h1, e1, byte_loV _ _ _ _ hj]
  by_cases h2 : a < 16
  · have e1 : wordRow a = a - 8 := by simp [wordRow, h1, h2]
    simp [h1, h2, e1, byte_hiV _ _ _ _ hj, show a - 8 < 8 by omega]
  by_cases h3 : a < 20
  · have e1 : wordRow a = a - 8 := by simp [wordRow, h1, h2, h3]
    have e2 : 8 + (a - 8 - 8) = a - 8 := by omega
    simp [h1, h2, h3, e1, e2, byte_loV _ _ _ _ hj, show ¬ a - 8 < 8 by omega, show a - 8 - 8 < 4 by omega]
  · have e1 : wordRow a = a - 12 := by simp [wordRow, h1, h2, h3]
    have e2 : 8 + (a - 8 - 8 - 4) = a - 12 := by omega
    simp [h1, h2, h3, e1, e2, byte_hiV _ _ _ _ hj, show ¬ a - 8 < 8 by omega, show ¬ a - 8 - 8 < 4 by omega]

/-! ## Lanes -/

/-- A lane's head is the lane over 32. -/
theorem lanes_apply (z : Fin 1) (l : Fin 128) : lanes (ix2 z l) = BitVec.ofNat 32 (l / 32) := by
  obtain rfl : z = 0 := Subsingleton.elim _ _
  revert l
  decide +kernel

/-- A selection by a decided condition. -/
theorem select_ite {α : Type} (p : Prop) [Decidable p] (x y : α) : Scalar.select (if p then 1#1 else 0#1) x y = if p then x else y := by
  split <;> rfl

/-- The gather's wrap of negative indices leaves a lane as it is. -/
theorem lane_word : ∀ m < 128, Scalar.select (IntOp.cmpi .slt (BitVec.ofNat 32 m) 0#32) (IntOp.addi (BitVec.ofNat 32 m) 128#32) (BitVec.ofNat 32 m)
    = BitVec.ofNat 32 m := by decide +kernel

/-- The lane gather's index: `base` plus the lane's head, in range. -/
theorem laneIdx_apply (n b : ℕ) (hn : n = 96 ∨ n = 20) (hb : b + 3 < 128) (r : Fin n) (l : Fin 128) :
    laneIdx n (BitVec.ofNat 32 b) (ix2 r l) = BitVec.ofNat 32 (b + l / 32) := by
  have key : IntOp.addi (BitVec.ofNat 32 b) (BitVec.ofNat 32 (l / 32)) = BitVec.ofNat 32 (b + l / 32) := by
    show _ + _ = _
    rw [← BitVec.ofNat_add]
  have lt : b + l.val / 32 < 128 := by omega
  rcases hn with rfl | rfl
  · unfold laneIdx
    rw [dif_pos (by decide), dif_pos (by decide)]
    pointwise
    rw [lanes_apply, key]
    exact lane_word _ lt
  · unfold laneIdx
    rw [dif_pos (by decide), dif_pos (by decide)]
    pointwise
    rw [lanes_apply, key]
    exact lane_word _ lt

/-! ## The exchange of the four heads -/

/-- Lane group `h` of tile `j` holds head `h`'s lanes of query group `j`. -/
theorem heads_apply (x : Fin 4 → IVec S12x128 32) (j h : Fin 4) (a : Fin 12) (r : Fin 32) :
    heads (x 0) (x 1) (x 2) (x 3) j (ix2 a ⟨32 * h + r, by omega⟩) = x h (ix2 a ⟨32 * j + r, by omega⟩) := by
  have up1 : ∀ (l : Fin 128) , upper 1#32 (ix2 a l) = if l.val / 32 % 2 = 1 then 1#1 else 0#1 := by
    intro l
    pointwise [upper]
    rw [lanes_apply]
    revert l
    decide +kernel
  have up2 : ∀ (l : Fin 128) , upper 2#32 (ix2 a l) = if 64 ≤ l.val then 1#1 else 0#1 := by
    intro l
    pointwise [upper]
    rw [lanes_apply]
    revert l
    decide +kernel
  have ix : ∀ (k : Fin 4) (u v : ℕ) (hu : u < 128) (hv : v < 128), u = v → x k (ix2 a ⟨u, hu⟩) = x k (ix2 a ⟨v, hv⟩) := by
    intro k u v hu hv e
    subst e
    rfl
  fin_cases j <;> fin_cases h <;> pointwise [heads, swapA, swapB] <;> simp only [up1, up2, select_ite] <;> split_ifs <;>
    first | (exfalso; omega) | (refine ix _ _ _ _ _ ?_; omega)

end Cert.KernelIdeal.Model
-- ==== Proof.Spec.lean ====
module

public import proofs.«01_k».proof.Proof.Codes

/-! # What the body computes, from its input blocks -/

@[expose] public section

set_option maxRecDepth 16384

noncomputable section

namespace Cert.KernelIdeal.Model

open Idealize.ShloMosaic Idealize.SL.Sem Cert.KernelIdeal.Bytes

/-- The body's input blocks and its key head. -/
structure Blocks where
  g : Fin 4
  q : Vec Ideal S1x8x48x640 .i8
  qs : Vec Ideal S1x20x32 .f32
  qm : Vec Ideal S1x5x8x96 .bf16
  k : Vec Ideal S1x1x48x640 .i8
  ks : Vec Ideal S1x4x20 .f32
  v : Vec Ideal S1x1x96x640 .fp8e4m3
  vs : Vec Ideal S1x20x4x96 .f32

/-- The environment loads its input blocks. -/
structure Env.Of (E : Env Ideal) (X : Blocks) : Prop where
  g : E.g = X.g
  gw : E.gw = BitVec.ofNat 32 X.g
  q : ∀ B j, E.q B j = X.q (B.idx j)
  qs : ∀ B j, E.qs B j = X.qs (B.idx j)
  qm : ∀ B j, E.qm B j = X.qm (B.idx j)
  k : ∀ B j, E.k B j = X.k (B.idx j)
  ks : ∀ B j, E.ks B j = X.ks (B.idx j)
  v : ∀ B j, E.v B j = X.v (B.idx j)
  vs : ∀ B j, E.vs B j = X.vs (B.idx j)

variable (X : Blocks)

/-- The signed nibble of a key, in the rows' order. -/
def Kn (key : Fin 640) (d : Fin 96) : ℝ := nibI (hiRow d) (X.k (ix4 0 0 ⟨byteRow d, byteRow_lt d.2⟩ key) : BitVec 8)
/-- The signed nibble of a query. -/
def Qn (h : Fin 8) (S : Fin 640) (d : Fin 96) : ℝ := nibI (hiRow d) (X.q (ix4 0 h ⟨byteRow d, byteRow_lt d.2⟩ S) : BitVec 8)

/-- There are 96 channels. -/
theorem feat_lt (d : Fin 96) : 2 * byteRow d + (hiRow d).toNat < 96 := by
  have := byteRow_lt d.2
  have := Bool.toNat_le (hiRow d)
  omega

/-- The feature of a row. -/
def feat (d : Fin 96) : Fin 96 := ⟨2 * byteRow d + (hiRow d).toNat, feat_lt d⟩

/-- The query mean of a block, a head and a channel. -/
def Qm (i : Fin 5) (h : Fin 8) (d : Fin 96) : EReal := X.qm (ix4 0 i h (feat d))
/-- The scaled key scale of a key group. -/
def Kt (kg : Fin 20) : EReal := X.ks (ix3 0 X.g kg) * (ktC : Ideal .f32)

/-- There are 32 query heads. -/
theorem qhead_lt (h : Fin 8) : 8 * X.g.val + h.val < 32 := by omega

/-- The query scale of a tile and a head. -/
def Qs (t : Fin 20) (h : Fin 8) : EReal := X.qs (ix3 0 t ⟨8 * X.g.val + h.val, qhead_lt X h⟩)

/-- The value of a channel and a key, times its scale over 256. -/
def Vw (d : Fin 96) (key : Fin 640) : EReal :=
  X.v (ix4 0 0 d key) * (X.vs (ix4 0 ⟨key / 32, by omega⟩ X.g d) * ((1 / 256 : ℝ) : EReal))

end Cert.KernelIdeal.Model
-- ==== Proof.Args.lean ====
module

public import proofs.«01_k».proof.Proof.Spec

/-! # The input blocks of one batch and key head, from the arguments -/

@[expose] public section

set_option maxRecDepth 16384

noncomputable section

namespace Cert.KernelIdeal.Model

open Idealize.ShloMosaic Idealize.SL.Sem

/-- The seven arguments. -/
structure Args where
  a0 : Vec Ideal S3x640x32x48 .i8
  a1 : Vec Ideal S3x20x32 .f32
  a2 : Vec Ideal S3x5x32x96 .bf16
  a3 : Vec Ideal S3x640x4x48 .i8
  a4 : Vec Ideal S3x20x4 .f32
  a5 : Vec Ideal S3x640x4x96 .fp8e4m3
  a6 : Vec Ideal S3x20x4x96 .f32

/-- A key head and a query head of its group name one of the 32 query heads. -/
theorem head8_lt (g : Fin 4) (r : Fin 8) : 8 * g.val + r.val < 32 := by omega

/-- Batch `b`'s and key head `g`'s blocks. -/
def Args.blocks (a : Args) (b : Fin 3) (g : Fin 4) : Blocks where
  g := g
  q := fun y => a.a0 (ix4 b (y 3) ⟨8 * g.val + (y 1).val, head8_lt g (y 1)⟩ (y 2))
  qs := fun y => a.a1 (ix3 b (y 1) (y 2))
  qm := fun y => a.a2 (ix4 b (y 1) ⟨8 * g.val + (y 2).val, head8_lt g (y 2)⟩ (y 3))
  k := fun y => a.a3 (ix4 b (y 3) g (y 2))
  ks := fun y => a.a4 (ix3 b (y 2) (y 1))
  v := fun y => a.a5 (ix4 b (y 3) g (y 2))
  vs := fun y => a.a6 (ix4 b (y 1) (y 2) (y 3))

end Cert.KernelIdeal.Model
-- ==== Proof.Grid.lean ====
module

public import proofs.«01_k».proof.Proof.Gen.KernelIdeal.Value
public import proofs.«01_k».proof.Proof.Args
public import Idealize.ShloMosaic.Lib.Pipeline.ValueKit
public import Idealize.ShloMosaic.Lib.Claim
public import Idealize.ShloMosaic.Lib.StableHlo.ReadAt
public import Idealize.ShloMosaic.Lib.Pointwise

/-! # The kernel's input blocks are the arguments' -/

@[expose] public section

set_option maxRecDepth 16384

noncomputable section

namespace Cert.KernelIdeal.Model

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's arguments. -/
def kargs : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)

/-- The batch and the key head of a grid point. -/
def pb (t : Fin cfg0.N) : Fin 3 := grid0.coords t 0

/-- The grid position's key head. -/
def pg (t : Fin cfg0.N) : Fin 4 := grid0.coords t 1

/-- The query window's block index at each grid step. -/
theorem idx0 : ∀ t : Fin cfg0.N, win0_0.index t = ![(pb t).val, (pg t).val, 0, 0] ∧ win0_1.index t = ![(pb t).val, 0, 0]
    ∧ win0_2.index t = ![(pb t).val, 0, (pg t).val, 0] ∧ win0_3.index t = ![(pb t).val, (pg t).val, 0, 0] :=
  (by decide +kernel : ∀ t : Fin grid0.N, _)

/-- The key scale window's block index at each grid step. -/
theorem idx1 : ∀ t : Fin cfg0.N, win0_4.index t = ![(pb t).val, 0, 0] ∧ win0_5.index t = ![(pb t).val, (pg t).val, 0, 0]
    ∧ win0_6.index t = ![(pb t).val, 0, 0, 0] ∧ win0_7.index t = ![(pb t).val, 0, (pg t).val] :=
  (by decide +kernel : ∀ t : Fin grid0.N, _)

/-- The transposed query codes. -/
def v0 : Vec Ideal S3x32x48x640 .i8 := V m c main_v0

/-- An element of the transposed query codes is one of the argument. -/
theorem v0_apply (b : Fin 3) (h : Fin 32) (d : Fin 48) (S : Fin 640) : v0 m c (ix4 b h d S) = (kargs m c).a0 (ix4 b S h d) := by
  unfold v0 kargs V
  after_reads_at

/-- The transposed key codes. -/
def v1 : Vec Ideal S3x4x48x640 .i8 := V m c main_v1

/-- The transposed values. -/
def v2 : Vec Ideal S3x4x96x640 .fp8e4m3 := V m c main_v2

/-- The transposed key scales. -/
def v3 : Vec Ideal S3x4x20 .f32 := V m c main_v3

/-- An element of the transposed key codes is one of the argument. -/
theorem v1_apply (b : Fin 3) (g : Fin 4) (d : Fin 48) (k : Fin 640) : v1 m c (ix4 b g d k) = (kargs m c).a3 (ix4 b k g d) := by
  unfold v1 kargs V
  after_reads_at

/-- An element of the transposed values is one of the argument. -/
theorem v2_apply (b : Fin 3) (g : Fin 4) (d : Fin 96) (k : Fin 640) : v2 m c (ix4 b g d k) = (kargs m c).a5 (ix4 b k g d) := by
  unfold v2 kargs V
  after_reads_at

/-- An element of the transposed key scales is one of the argument. -/
theorem v3_apply (b : Fin 3) (g : Fin 4) (kg : Fin 20) : v3 m c (ix3 b g kg) = (kargs m c).a4 (ix3 b kg g) := by
  unfold v3 kargs V
  after_reads_at

/-- A block of input window 0, from its array. -/
theorem read0 (t : Fin cfg0.N) (A : Vec Ideal S3x32x48x640 .i8) : ((cfg0.win 0).blk t).view.read (Elt Ideal) A
    = fun y : S1x8x48x640.Idx => A (ix4 (pb t) ⟨8 * (pg t).val + (y 1).val, head8_lt (pg t) (y 1)⟩ (y 2) (y 3)) := by
  funext y
  blk_ext [idx0 t]

/-- A block of input window 1, from its array. -/
theorem read1 (t : Fin cfg0.N) (A : Vec Ideal S3x20x32 .f32) : ((cfg0.win 1).blk t).view.read (Elt Ideal) A
    = fun y : S1x20x32.Idx => A (ix3 (pb t) (y 1) (y 2)) := by
  funext y
  blk_ext [idx0 t]

/-- A block of input window 2, from its array. -/
theorem read2 (t : Fin cfg0.N) (A : Vec Ideal S3x5x32x96 .bf16) : ((cfg0.win 2).blk t).view.read (Elt Ideal) A
    = fun y : S1x5x8x96.Idx => A (ix4 (pb t) (y 1) ⟨8 * (pg t).val + (y 2).val, head8_lt (pg t) (y 2)⟩ (y 3)) := by
  funext y
  blk_ext [idx0 t]

/-- A block of input window 3, from its array. -/
theorem read3 (t : Fin cfg0.N) (A : Vec Ideal S3x4x48x640 .i8) : ((cfg0.win 3).blk t).view.read (Elt Ideal) A
    = fun y : S1x1x48x640.Idx => A (ix4 (pb t) (pg t) (y 2) (y 3)) := by
  funext y
  blk_ext [idx0 t]

/-- A block of input window 4, from its array. -/
theorem read4 (t : Fin cfg0.N) (A : Vec Ideal S3x4x20 .f32) : ((cfg0.win 4).blk t).view.read (Elt Ideal) A
    = fun y : S1x4x20.Idx => A (ix3 (pb t) (y 1) (y 2)) := by
  funext y
  blk_ext [idx1 t]

/-- A block of input window 5, from its array. -/
theorem read5 (t : Fin cfg0.N) (A : Vec Ideal S3x4x96x640 .fp8e4m3) : ((cfg0.win 5).blk t).view.read (Elt Ideal) A
    = fun y : S1x1x96x640.Idx => A (ix4 (pb t) (pg t) (y 2) (y 3)) := by
  funext y
  blk_ext [idx1 t]

/-- A block of input window 6, from its array. -/
theorem read6 (t : Fin cfg0.N) (A : Vec Ideal S3x20x4x96 .f32) : ((cfg0.win 6).blk t).view.read (Elt Ideal) A
    = fun y : S1x20x4x96.Idx => A (ix4 (pb t) (y 1) (y 2) (y 3)) := by
  funext y
  blk_ext [idx1 t]

/-- A grid point's blocks. -/
def pblocks (t : Fin cfg0.N) : Blocks := (kargs m c).blocks (pb t) (pg t)

/-- A grid step's block of input window 0, from the arguments. -/
theorem iblk0 (t : Fin cfg0.N) : iblk m c 0 t = (pblocks m c t).q :=
  (read0 t (v0 m c)).trans (funext fun _ => v0_apply m c _ _ _ _)

/-- A grid step's block of input window 1, from the arguments. -/
theorem iblk1 (t : Fin cfg0.N) : iblk m c 1 t = (pblocks m c t).qs :=
  (congrArg (((cfg0.win 1).blk t).view.read (Elt Ideal)) (V_main_arg1 m c)).trans (read1 t (kargs m c).a1)

/-- A grid step's block of input window 2, from the arguments. -/
theorem iblk2 (t : Fin cfg0.N) : iblk m c 2 t = (pblocks m c t).qm :=
  (congrArg (((cfg0.win 2).blk t).view.read (Elt Ideal)) (V_main_arg2 m c)).trans (read2 t (kargs m c).a2)

/-- A grid step's block of input window 3, from the arguments. -/
theorem iblk3 (t : Fin cfg0.N) : iblk m c 3 t = (pblocks m c t).k :=
  (read3 t (v1 m c)).trans (funext fun _ => v1_apply m c _ _ _ _)

/-- A grid step's block of input window 4, from the arguments. -/
theorem iblk4 (t : Fin cfg0.N) : iblk m c 4 t = (pblocks m c t).ks :=
  (read4 t (v3 m c)).trans (funext fun _ => v3_apply m c _ _ _)

/-- A grid step's block of input window 5, from the arguments. -/
theorem iblk5 (t : Fin cfg0.N) : iblk m c 5 t = (pblocks m c t).v :=
  (read5 t (v2 m c)).trans (funext fun _ => v2_apply m c _ _ _ _)

/-- A grid step's block of input window 6, from the arguments. -/
theorem iblk6 (t : Fin cfg0.N) : iblk m c 6 t = (pblocks m c t).vs :=
  (congrArg (((cfg0.win 6).blk t).view.read (Elt Ideal)) (V_main_arg6 m c)).trans (read6 t (kargs m c).a6)

end Cert.KernelIdeal.Model
-- ==== Proof.Match.lean ====
module

public import proofs.«01_k».proof.Proof.Gen.KernelIdeal.Value
public import proofs.«01_k».proof.Proof.Model

/-! # The run's pieces are the model's -/

@[expose] public section

set_option maxRecDepth 65536

noncomputable section

namespace Cert.KernelIdeal.Model

open Idealize.ShloMosaic Idealize.SL.Sem Cert.KernelIdeal.Gen

variable {F : FTy → Type} [FloatOps F] [Named F]

/-- A head of a quad is one of the eight heads. -/
theorem head_lt (i : grid0.Coords) : (Scalar.indexCast (BitVec.ofNat 32 (i 1).val) : BitVec 32).toNat < 4 := by
  have h : (i 1).val < 4 := (i 1).isLt
  simp only [Scalar.indexCast]
  simp [BitVec.toNat_ofNat]
  omega

variable (c : Dev nD) (i : grid0.Coords)
  (arg2 : Memref sig .tc .vmem S1x8x48x640 .i8) (harg2 : arg2.IsWhole)
  (arg3 : Memref sig .tc .vmem S1x20x32 .f32) (harg3 : arg3.IsWhole)
  (arg4 : Memref sig .tc .vmem S1x5x8x96 .bf16) (harg4 : arg4.IsWhole)
  (arg5 : Memref sig .tc .vmem S1x1x48x640 .i8) (harg5 : arg5.IsWhole)
  (arg6 : Memref sig .tc .smem S1x4x20 .f32) (harg6 : arg6.IsWhole)
  (arg7 : Memref sig .tc .vmem S1x1x96x640 .fp8e4m3) (harg7 : arg7.IsWhole)
  (arg8 : Memref sig .tc .vmem S1x20x4x96 .f32) (harg8 : arg8.IsWhole)
  (arg9 : Memref sig .tc .vmem S1x640x768 .bf16) (harg9 : arg9.IsWhole)
  (arg10 : Memref sig .tc .vmem S20x32x256 .i32) (harg10 : arg10.IsWhole)
  (arg11 : Memref sig .tc .vmem S640x128 .bf16) (harg11 : arg11.IsWhole)
  (arg12 : Memref sig .tc .vmem S96x640 .bf16) (harg12 : arg12.IsWhole)
  (arg13 : Memref sig .tc .vmem S20x8x128 .f32) (harg13 : arg13.IsWhole)
  (arg14 : Memref sig .tc .vmem S2x20x128 .f32) (harg14 : arg14.IsWhole)
  (arg15 : Memref sig .tc .vmem S640x256 .f32) (harg15 : arg15.IsWhole)
  (arg16 : Memref sig .tc .vmem S128x128 .f32) (harg16 : arg16.IsWhole)
  (x0 : Vec F S1x8x48x640 .i8) (x1 : Vec F S1x20x32 .f32) (x2 : Vec F S1x5x8x96 .bf16) (x3 : Vec F S1x1x48x640 .i8) (x4 : Vec F S1x4x20 .f32) (x5 : Vec F S1x1x96x640 .fp8e4m3) (x6 : Vec F S1x20x4x96 .f32)

/-- The model's environment of a run of the body. -/
def env : Env F where
  g := (Scalar.indexCast (BitVec.ofNat 32 (i 1).val) : BitVec 32).toNat
  hg := head_lt i
  gw := BitVec.ofNat 32 (i 1).val
  q := fun B => View.readAt (Elt F) arg2.view B (harg2.unread x0)
  qs := fun B => View.readAt (Elt F) arg3.view B (harg3.unread x1)
  qm := fun B => View.readAt (Elt F) arg4.view B (harg4.unread x2)
  k := fun B => View.readAt (Elt F) arg5.view B (harg5.unread x3)
  ks := fun B => View.readAt (Elt F) arg6.view B (harg6.unread x4)
  v := fun B => View.readAt (Elt F) arg7.view B (harg7.unread x5)
  vs := fun B => View.readAt (Elt F) arg8.view B (harg8.unread x6)
  rhsW := arg10.view
  kkW := arg11.view
  vwW := arg12.view
  ktW := arg13.view
  qrW := arg14.view
  btW := arg15.view
  qmW := arg16.view

set_option maxHeartbeats 0 in
/-- The pieces that the run stores into the output are the model's, tile by tile. -/
theorem run_out : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).1 = outL (env i arg2 harg2 arg3 harg3 arg4 harg4 arg5 harg5 arg6 harg6 arg7 harg7 arg8 harg8 arg10 arg11 arg12 arg13 arg14 arg15 arg16 x0 x1 x2 x3 x4 x5 x6) 20 := by sl_kernel_rfl

end Cert.KernelIdeal.Model
-- ==== Proof.Reads.lean ====
module

public import proofs.«01_k».proof.Proof.Spec
public import Idealize.ShloMosaic.Lib.Pipeline.CanonAppend

/-! # What the scratch buffers hold -/

@[expose] public section

set_option maxRecDepth 16384

noncomputable section

namespace Cert.KernelIdeal.Model

open Idealize.ShloMosaic Idealize.SL.Sem Cert.KernelIdeal.Bytes

/-- A piece of a list of stores is a piece of one of them. -/
theorem mem_pcs {α : Type} (f : ℕ → List α) (n : ℕ) (p : α) : p ∈ pcs f n ↔ ∃ k, k < n ∧ p ∈ f k := by
  induction n with
  | zero => simp [pcs]
  | succ n ih =>
    rw [pcs, List.mem_append, ih]
    constructor
    · rintro (h | ⟨k, hk, h⟩)
      · exact ⟨n, by omega, h⟩
      · exact ⟨k, by omega, h⟩
    · rintro ⟨k, hk, h⟩
      by_cases e : k = n
      · subst e; exact .inl h
      · exact .inr ⟨k, by omega, h⟩

section
variable {s : Shape} {e : EltTy}

/-- A load of stored pieces is the value they leave. -/
theorem rd_canon (v : View sig .tc .vmem s e) (L : List (View.Piece (Elt Ideal) s e)) (off size : Fin s.rank → ℕ)
    (h : ∀ a, off a + size a ≤ s.size a) (j : (⟨s.rank, size⟩ : Shape).Idx) :
    rd v L off size j = View.canon L ((Rect.unit off size h).toLoadRect.idx j) := by
  rw [rd, dif_pos h, View.readCov_eq_canon']

/-- A load at an offset reads the block there. -/
theorem ldAt_eq (ld : (B : LoadRect s) → B.shape.Idx → Elt Ideal e) (x : s.Idx → Elt Ideal e) (hx : ∀ B j, ld B j = x (B.idx j))
    (off size : Fin s.rank → ℕ) (h : ∀ a, off a + size a ≤ s.size a) (j : (⟨s.rank, size⟩ : Shape).Idx) :
    ldAt ld off size j = x ((Rect.unit off size h).toLoadRect.idx j) := by
  rw [ldAt, dif_pos h, hx]

/-- Pieces that agree with one function leave it where one of them lies. -/
theorem canon_pcs (n : ℕ) (o : ℕ → Fin s.rank → ℕ) (sz : Fin s.rank → ℕ) (w : ℕ → (⟨s.rank, sz⟩ : Shape).Idx → Elt Ideal e)
    (G : s.Idx → Elt Ideal e) (L' : List (View.Piece (Elt Ideal) s e))
    (hG : ∀ k, k < n → ∀ (h : ∀ a, o k a + sz a ≤ s.size a) x, w k x = G ((Rect.unit (o k) sz h).emb x))
    (y : s.Idx) (k : ℕ) (hk : k < n) (hin : ∀ a, o k a + sz a ≤ s.size a)
    (hy : ∀ a, o k a ≤ (y a).val ∧ (y a).val < o k a + sz a) :
    View.canon (pcs (fun k => pc (o k) sz (w k)) n ++ L') y = G y := by
  refine View.canon_append_of_pieces G L' _ ?_ y ?_
  · intro p hp x
    obtain ⟨k, hk, hp⟩ := (mem_pcs _ _ _).1 hp
    unfold pc at hp
    split_ifs at hp with h
    · rw [List.mem_singleton] at hp
      subst hp
      exact hG k hk h x
    · simp at hp
  · refine ⟨⟨Rect.unit (o k) sz hin, w k⟩, (mem_pcs _ _ _).2 ⟨k, hk, ?_⟩, ?_⟩
    · rw [pc, dif_pos hin]; exact List.mem_singleton_self _
    · exact (Rect.mem_set_unit (inb := hin)).2 hy

/-- A store's piece covers its rectangle. -/
theorem exists_mem_pc (o sz : Fin s.rank → ℕ) (w : (⟨s.rank, sz⟩ : Shape).Idx → Elt Ideal e) (y : s.Idx)
    (hin : ∀ a, o a + sz a ≤ s.size a) (hy : ∀ a, o a ≤ (y a).val ∧ (y a).val < o a + sz a) :
    ∃ p ∈ pc (s := s) (e := e) o sz w, y ∈ p.1.set := by
  rw [pc, dif_pos hin]
  exact ⟨_, List.mem_singleton_self _, (Rect.mem_set_unit (inb := hin)).2 hy⟩

/-- One of the stores covers a place of its rectangle. -/
theorem exists_mem_pcs (n : ℕ) (o : ℕ → Fin s.rank → ℕ) (sz : Fin s.rank → ℕ) (w : ℕ → (⟨s.rank, sz⟩ : Shape).Idx → Elt Ideal e) (y : s.Idx)
    (k : ℕ) (hk : k < n) (hin : ∀ a, o k a + sz a ≤ s.size a) (hy : ∀ a, o k a ≤ (y a).val ∧ (y a).val < o k a + sz a) :
    ∃ p ∈ pcs (fun k => pc (s := s) (e := e) (o k) sz (w k)) n, y ∈ p.1.set := by
  obtain ⟨p, hp, h⟩ := exists_mem_pc (o k) sz (w k) y hin hy
  exact ⟨p, (mem_pcs _ _ _).2 ⟨k, hk, hp⟩, h⟩

/-- If every store writes its part of one array, the buffer holds that array. -/
theorem canon_pcs_nil (n : ℕ) (o : ℕ → Fin s.rank → ℕ) (sz : Fin s.rank → ℕ) (w : ℕ → (⟨s.rank, sz⟩ : Shape).Idx → Elt Ideal e)
    (G : s.Idx → Elt Ideal e)
    (hG : ∀ k, k < n → ∀ (h : ∀ a, o k a + sz a ≤ s.size a) x, w k x = G ((Rect.unit (o k) sz h).emb x))
    (y : s.Idx) (k : ℕ) (hk : k < n) (hin : ∀ a, o k a + sz a ≤ s.size a)
    (hy : ∀ a, o k a ≤ (y a).val ∧ (y a).val < o k a + sz a) :
    View.canon (pcs (fun k => pc (o k) sz (w k)) n) y = G y := by
  rw [← List.append_nil (pcs _ _)]
  exact canon_pcs n o sz w G [] hG y k hk hin hy
end

variable {E : Env Ideal} {X : Blocks} (hE : E.Of X)
include hE

/-- The key scale that the body loads. -/
theorem ks_eq (kg : Fin 20) : ks E kg = X.ks (ix3 0 X.g kg) := by
  rw [ks, dif_pos kg.2, hE.ks]
  congr 1
  funext a
  apply Fin.ext
  have := hE.g
  fin_cases a <;> simp [LoadRect.idx, Shape.Idx.first, this]

/-- A row of the key scales. -/
theorem ktRow_apply (kg : Fin 20) (r : Fin 8) (l : Fin 128) : ktRow E kg (ix2 r l) = Kt X kg := by
  unfold ktRow
  pointwise
  rw [rd_canon _ _ _ _ (by have := kg.2; intro a; fin_cases a <;> simp [S20x8x128] <;> omega), ktL]
  refine (canon_pcs_nil (s := S20x8x128) (e := .f32) 20 (fun kg => ![kg, 0, 0]) ![1, 8, 128] _ (fun y => Kt X (y 0)) ?_ _ kg kg.2
      (by have := kg.2; intro a; fin_cases a <;> simp [S20x8x128] <;> omega)
      (by intro a; fin_cases a <;> simp [LoadRect.idx])).trans ?_
  swap
  · show Kt X _ = _
    congr 1
  · intro k hk h x
    have e : ((Rect.unit (s := S20x8x128) ![k, 0, 0] ![1, 8, 128] h).emb x) 0 = (⟨k, hk⟩ : Fin 20) := by
      apply Fin.ext
      have : (x 0).val < 1 := (x 0).isLt
      simp [Rect.emb_apply]
      omega
    show _ = Kt X (((Rect.unit (s := S20x8x128) ![k, 0, 0] ![1, 8, 128] h).emb x) 0)
    rw [e, Kt, ← ks_eq hE ⟨k, hk⟩]
    rfl

/-- The query scales: lane `l` of quad `c` at query group `t` is the scale of head `4c + l/32`. -/
theorem qr_apply (c : Fin 2) (t : Fin 20) (l : Fin 128) (z z' : Fin 1) :
    rd (s := S2x20x128) E.qrW (qrL E) ![c, t, 0] ![1, 1, 128] (ix3 z z' l) = Qs X t ⟨4 * c + l / 32, by omega⟩ := by
  have hw : ∀ (c : ℕ) (hc : c < 2) (u : Fin 1) (t : Fin 20) (l : Fin 128), (shapeCast S1x20x128 (dynamicGather 1 (qsPad (ldAt E.qs ![0, 0, 0] ![1, 20, 32]))
      (laneIdx 20 (Scalar.addi (Scalar.muli E.gw 8#32) (BitVec.ofNat 32 (4 * c))))) (by decide) : FVec Ideal S1x20x128 .f32) (ix3 u t l)
        = Qs X t ⟨4 * c + l / 32, by omega⟩ := by
    intro c hc u t l
    have hb : Scalar.addi (Scalar.muli E.gw 8#32) (BitVec.ofNat 32 (4 * c)) = BitVec.ofNat 32 (8 * X.g.val + 4 * c) := by
      rw [hE.gw]
      have hg := X.g.2
      revert hg
      generalize X.g.val = g
      intro hg
      exact (by decide : ∀ g < 4, ∀ c < 2, Scalar.addi (Scalar.muli (BitVec.ofNat 32 g) 8#32) (BitVec.ofNat 32 (4 * c)) = BitVec.ofNat 32 (8 * g + 4 * c)) g hg c hc
    rw [hb]
    pointwise
    have hg := X.g.2
    have hm : (BitVec.ofNat 32 (8 * X.g.val + 4 * c + l.val / 32)).toNat % 128 = 8 * X.g.val + 4 * c + l.val / 32 := by
      rw [BitVec.toNat_ofNat]; omega
    have e : ((laneIdx 20 (BitVec.ofNat 32 (8 * X.g.val + 4 * c)) (ix2 t l)).toNat % 128) = 8 * X.g.val + 4 * c + l.val / 32 := by
      rw [laneIdx_apply 20 _ (.inr rfl) (by omega), hm]
    simp only [e]
    pointwise [qsPad]
    rw [dif_pos (by omega), ldAt_eq E.qs X.qs hE.qs ![0, 0, 0] ![1, 20, 32] (by decide), Qs]
    congr 1
    funext a
    apply Fin.ext
    fin_cases a <;> simp [LoadRect.idx]
    omega
  rw [rd_canon _ _ _ _ (by have := c.2; have := t.2; intro a; fin_cases a <;> simp [S2x20x128] <;> omega), qrL]
  refine (canon_pcs_nil (s := S2x20x128) (e := .f32) 2 (fun c => ![c, 0, 0]) ![1, 20, 128] _
      (fun y => Qs X (y 1) ⟨4 * (y 0).val + (y 2).val / 32, by have : (y 0).val < 2 := (y 0).isLt; have : (y 2).val < 128 := (y 2).isLt; omega⟩) ?_ _ c c.2
      (by have := c.2; intro a; fin_cases a <;> simp [S2x20x128] <;> omega)
      (by intro a; fin_cases a <;> simp [LoadRect.idx])).trans ?_
  swap
  · show Qs X _ _ = _
    congr 1
    · apply Fin.ext
      simp [LoadRect.idx]
    · apply Fin.ext
      simp [LoadRect.idx]
  · intro k hk h x
    idx_vars x
    rw [hw k hk]
    show Qs X _ _ = Qs X _ _
    congr 1
    · apply Fin.ext
      simp [Rect.emb_apply]
    · apply Fin.ext
      simp [Rect.emb_apply]

/-- The loaded keys: the signed nibbles' lattice points, and two rows that hold minus their sum. -/
theorem kkRows_apply (n : ℕ) (hn : n ≤ 640) (key : Fin n) (k : Fin 128) :
    kkRows E n (ix2 key k) = keys (keyCodes X.k) (ix2 ⟨key, by omega⟩ k) := by
  have hk : ldAt E.k ![0, 0, 0, 0] ![1, 1, 48, 640] = X.k := by
    funext j
    rw [ldAt_eq E.k X.k hE.k ![0, 0, 0, 0] ![1, 1, 48, 640] (by decide)]
    congr 1
    funext a
    apply Fin.ext
    fin_cases a <;> simp [LoadRect.idx]
  unfold kkRows
  rw [rd_canon _ _ _ _ (by intro a; fin_cases a <;> simp [S640x128] <;> omega), kkL, hk, pc, dif_pos (by decide)]
  refine (View.canon_apply_of_pieces (keys (keyCodes X.k)) _ ?_ _ ?_).trans ?_
  · intro p hp x
    rw [List.mem_singleton] at hp
    subst hp
    show keys (keyCodes X.k) _ = keys (keyCodes X.k) _
    congr 1
    funext a
    apply Fin.ext
    fin_cases a <;> simp [Rect.emb_apply]
  · refine ⟨_, List.mem_singleton_self _, ?_⟩
    refine (Rect.mem_set_unit (s := S640x128) (inb := by decide)).2 ?_
    have h1 := key.2
    have h2 := k.2
    intro a
    fin_cases a <;> simp [LoadRect.idx]
    omega
  · congr 1
    funext a
    apply Fin.ext
    fin_cases a <;> simp [LoadRect.idx]

/-- The words of the query buffer: rows past the codes hold the constant lattice points. -/
def rhsG (E : Env Ideal) (t row col : ℕ) : BitVec 32 :=
  if h : row < 24 then
    qCodes (heads (qWords E (t / 4) (4 * (col / 128))) (qWords E (t / 4) (4 * (col / 128) + 1)) (qWords E (t / 4) (4 * (col / 128) + 2))
      (qWords E (t / 4) (4 * (col / 128) + 3)) (t % 4)) (ix3 0 ⟨row, h⟩ ⟨col % 128, by omega⟩)
  else 134744072#32

omit hE in
/-- What the buffer of the query codes holds. -/
theorem rhs_apply (t : Fin 20) (z : Fin 1) (row : Fin 32) (col : Fin 256) :
    rd (s := S20x32x256) (e := .i32) E.rhsW (rhsL E) ![t, 0, 0] ![1, 32, 256] (ix3 z row col) = rhsG E t row col := by
  have ht := t.2
  have hrow := row.2
  have hcol := col.2
  have hin : ∀ n < 40, ∀ a, (![4 * (n / 8) + n % 4, 0, 128 * (n / 4 % 2)] : Fin 3 → ℕ) a + (![1, 24, 128] : Fin 3 → ℕ) a ≤ S20x32x256.size a := by
    intro n hn a
    fin_cases a <;> simp [S20x32x256] <;> omega
  rw [rd_canon _ _ _ _ (by intro a; fin_cases a <;> simp [S20x32x256] <;> omega)]
  refine (View.canon_apply_of_pieces (Val := Elt Ideal) (S := S20x32x256) (e := .i32) (fun y => rhsG E (y 0) (y 1) (y 2)) (rhsL E) ?_ _ ?_).trans ?_
  · intro p hp x
    rw [rhsL, List.mem_append] at hp
    rcases hp with hp | hp
    · rw [pc, dif_pos (by decide), List.mem_singleton] at hp
      subst hp
      show _ = rhsG E _ _ _
      rw [rhsG, dif_neg (by simp [Rect.emb_apply])]
      rfl
    · obtain ⟨n, hn, hp⟩ := (mem_pcs _ _ _).1 hp
      rw [pc, dif_pos (hin n hn), List.mem_singleton] at hp
      subst hp
      idx_vars x
      obtain rfl : x0 = 0 := Subsingleton.elim _ _
      have h1 := x1.2
      have h2 := x2.2
      show _ = rhsG E _ _ _
      rw [rhsG, dif_pos (by simp [Rect.emb_apply])]
      have e0 : ((Rect.unit (s := S20x32x256) ![4 * (n / 8) + n % 4, 0, 128 * (n / 4 % 2)] ![1, 24, 128] (hin n hn)).emb (ix3 0 x1 x2) 0).val = 4 * (n / 8) + n % 4 := by
        simp [Rect.emb_apply]
      have e1 : ((Rect.unit (s := S20x32x256) ![4 * (n / 8) + n % 4, 0, 128 * (n / 4 % 2)] ![1, 24, 128] (hin n hn)).emb (ix3 0 x1 x2) 1).val = x1 := by
        simp [Rect.emb_apply]
      have e2 : ((Rect.unit (s := S20x32x256) ![4 * (n / 8) + n % 4, 0, 128 * (n / 4 % 2)] ![1, 24, 128] (hin n hn)).emb (ix3 0 x1 x2) 2).val = 128 * (n / 4 % 2) + x2 := by
        simp [Rect.emb_apply]
      have f0 : (4 * (n / 8) + n % 4) / 4 = n / 8 := by omega
      have f1 : (4 * (n / 8) + n % 4) % 4 = n % 4 := by omega
      have f2 : (128 * (n / 4 % 2) + x2.val) / 128 = n / 4 % 2 := by omega
      have f3 : (128 * (n / 4 % 2) + x2.val) % 128 = x2 := by omega
      simp only [e0, e1, e2, f0, f1, f2, f3]
  · rw [rhsL]
    by_cases h : row.val < 24
    · obtain ⟨p, hp, hy⟩ := exists_mem_pcs (s := S20x32x256) (e := .i32) 40 (fun n => ![4 * (n / 8) + n % 4, 0, 128 * (n / 4 % 2)]) ![1, 24, 128]
        (fun n => qCodes (heads (qWords E (n / 8) (4 * (n / 4 % 2))) (qWords E (n / 8) (4 * (n / 4 % 2) + 1)) (qWords E (n / 8) (4 * (n / 4 % 2) + 2))
          (qWords E (n / 8) (4 * (n / 4 % 2) + 3)) (n % 4)))
        ((Rect.unit (s := S20x32x256) ![t, 0, 0] ![1, 32, 256] (by intro a; fin_cases a <;> simp [S20x32x256] <;> omega)).toLoadRect.idx (ix3 z row col))
        (8 * (t / 4) + 4 * (col / 128) + t % 4) (by omega) (hin _ (by omega))
        (by intro a; fin_cases a <;> simp [LoadRect.idx] <;> omega)
      exact ⟨p, List.mem_append_right _ hp, hy⟩
    · obtain ⟨p, hp, hy⟩ := exists_mem_pc (s := S20x32x256) (e := .i32) ![0, 24, 0] ![20, 8, 256]
        (shapeCast S20x8x256 (broadcast S20x8x256 134744072#32 : IVec S20x8x256 32) (by decide))
        ((Rect.unit (s := S20x32x256) ![t, 0, 0] ![1, 32, 256] (by intro a; fin_cases a <;> simp [S20x32x256] <;> omega)).toLoadRect.idx (ix3 z row col))
        (by decide)
        (by intro a; fin_cases a <;> simp [LoadRect.idx] <;> omega)
      exact ⟨p, List.mem_append_left _ hp, hy⟩
  · show rhsG E _ _ _ = _
    congr 1 <;> simp [LoadRect.idx]

/-- A byte of the query words: the byte row's code of the block's lane. -/
theorem byte_qWords (i : ℕ) (hi : i < 5) (h : Fin 8) (a : Fin 12) (j : ℕ) (hj : j < 4) (l : Fin 128) (q : Fin 48) (hq : q.val = 4 * a.val + j) :
    byte (qWords E i h (ix2 a l)) j = X.q (ix4 0 h q ⟨128 * i + l, by omega⟩) := by
  have hh := h.2
  unfold qWords
  rw [byte_bitcast_8_32 _ _ a l j hj q hq]
  pointwise
  rw [ldAt_eq E.q X.q hE.q ![0, h, 0, 128 * i] ![1, 1, 48, 128] (by intro a; fin_cases a <;> simp [S1x8x48x640] <;> omega)]
  congr 1
  funext a
  apply Fin.ext
  fin_cases a <;> simp [LoadRect.idx]

/-- The bytes of the query buffer. -/
theorem byte_rhsG (t : Fin 20) (row j : ℕ) (hrow : row < 24) (hj : j < 4) (col : Fin 256) :
    byte (rhsG E t row col) j = nib (hiRow (4 * row + j))
      (X.q (ix4 0 ⟨col / 32, by omega⟩ ⟨byteRow (4 * row + j), byteRow_lt (by omega)⟩ ⟨32 * t + col % 32, by omega⟩) : BitVec 8) := by
  have ht := t.2
  have hcol := col.2
  rw [rhsG, dif_pos hrow, byte_qCodes _ row j hrow hj]
  congr 1
  have hx := heads_apply (fun h => qWords E (t / 4) (4 * (col / 128) + h.val)) ⟨t % 4, by omega⟩ ⟨col % 128 / 32, by omega⟩
    ⟨wordRow row, wordRow_lt hrow⟩ ⟨col % 32, by omega⟩
  have e : (⟨col % 128, by omega⟩ : Fin 128) = ⟨32 * (col % 128 / 32) + col % 32, by omega⟩ := Fin.ext (by dsimp only; omega)
  rw [e]
  refine (congrArg (byte · j) hx).trans ?_
  have hw := byte_qWords hE (t / 4) (by omega) ⟨col / 32, by omega⟩ ⟨wordRow row, wordRow_lt hrow⟩ j hj ⟨32 * (t % 4) + col % 32, by omega⟩
    ⟨byteRow (4 * row + j), byteRow_lt (by omega)⟩ (byteRow_eq hrow hj)
  have e1 : 4 * (col.val / 128) + col.val % 128 / 32 = col / 32 := by omega
  simp only [e1]
  refine hw.trans ?_
  congr 2
  apply Fin.ext
  show _ = _
  dsimp only
  omega

end Cert.KernelIdeal.Model
-- ==== Proof.Keys.lean ====
module

public import proofs.«01_k».proof.Proof.Reads
public import Idealize.ShloMosaic.Lib.MatmulPlain

/-! # The scores' first product: keys against queries -/

@[expose] public section

set_option maxRecDepth 16384

noncomputable section

namespace Cert.KernelIdeal.Model

open Idealize.ShloMosaic Idealize.SL.Sem Cert.KernelIdeal.Bytes

/-- Constants of the kernel, as real numbers. -/
theorem ofBits_64th : Ideal.ofBits .bf16 0x3C80#16 = ((8 * (1 / 512) : ℝ) : EReal) := by
  simp [Ideal.ofBits, Ideal.ieee, -EReal.coe_mul]; norm_num

/-- A constant of the kernel, as a real number. -/
theorem ofBits_32 : Ideal.ofBits .f32 0x42000000#32 = ((32 : ℝ) : EReal) := by
  simp [Ideal.ofBits, Ideal.ieee, -EReal.coe_mul]; norm_num

/-- A constant of the kernel, as a real number. -/
theorem ofBits_32nd : Ideal.ofBits .f32 0x3D000000#32 = ((1 / 32 : ℝ) : EReal) := by
  simp [Ideal.ofBits, Ideal.ieee, -EReal.coe_mul]; norm_num

/-- A constant of the kernel, as a real number. -/
theorem ofBits_2p18 : Ideal.ofBits .f32 0x48800000#32 = ((262144 : ℝ) : EReal) := by
  simp [Ideal.ofBits, Ideal.ieee, -EReal.coe_mul]; norm_num

/-- A constant of the kernel, as a real number. -/
theorem ofBits_512 : Ideal.ofBits .f32 0x44000000#32 = ((512 : ℝ) : EReal) := by
  simp [Ideal.ofBits, Ideal.ieee, -EReal.coe_mul]; norm_num

/-- A constant of the kernel, as a real number. -/
theorem ofBits_256 : Ideal.ofBits .f32 0x43800000#32 = ((256 : ℝ) : EReal) := by
  simp [Ideal.ofBits, Ideal.ieee, -EReal.coe_mul]; norm_num

/-- A constant of the kernel, as a real number. -/
theorem ofBits_256th : Ideal.ofBits .f32 0x3B800000#32 = ((1 / 256 : ℝ) : EReal) := by
  simp [Ideal.ofBits, Ideal.ieee, -EReal.coe_mul]; norm_num

/-- A constant of the kernel, as a real number. -/
theorem ofBits_448 : Ideal.ofBits .f32 0x43E00000#32 = ((448 : ℝ) : EReal) := by
  simp [Ideal.ofBits, Ideal.ieee, -EReal.coe_mul]; norm_num

/-- The pattern of minus infinity. -/
theorem ofBits_bot : Ideal.ofBits .f32 0xFF800000#32 = ⊥ := by
  simp [Ideal.ofBits, Ideal.ieee]

/-- A sum of reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over 96 rows and 32 more, of which only the first two count. -/
theorem sum_rows {M : Type} [AddCommMonoid M] (f : Fin 128 → M) (h : ∀ k : Fin 128, 98 ≤ k.val → f k = 0) :
    ∑ k, f k = (∑ d : Fin 96, f ⟨d, by omega⟩) + (f 96 + f 97) := by
  rw [show (∑ k, f k) = ∑ k : Fin (96 + 32), f k from rfl, Fin.sum_univ_add]
  congr 1
  have : ∀ d : Fin 32, 2 ≤ d.val → f (Fin.natAdd 96 d) = 0 := fun d hd => h _ (by show 98 ≤ 96 + d.val; omega)
  rw [← Finset.sum_subset (Finset.subset_univ ({0, 1} : Finset (Fin 32)))]
  · rw [Finset.sum_pair (by decide)]; rfl
  · intro d _ hd
    apply this
    have : d ≠ 0 ∧ d ≠ 1 := by simpa using hd
    have h0 : d.val ≠ 0 := fun e => this.1 (Fin.ext e)
    have h1 : d.val ≠ 1 := fun e => this.2 (Fin.ext e)
    omega

/-- A plain product onto zero, at an index. -/
theorem matmul_zero {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c)
      = ∑ k : Fin K, (lhs (ix2 r k) * rhs (ix2 k c) : EReal) := by
  simp only [ix2_eq_valueIdx]
  refine (Ideal.matmul_plain_apply none lhs rhs _ r c).trans ?_
  have h0 : (constant ⟨2, ![M, N]⟩ .f32 0x00000000#32 : FVec Ideal _ .f32) (ValueIdx.ix2 r c) = (0 : EReal) := Ideal.ofBits_zero_f32
  rw [h0, zero_add]

variable (X : Blocks)

/-- A key's code, before 8 units are subtracted. -/
theorem keyCodes_real (d : Fin 96) (key : Fin 640) :
    keyCodes X.k (ix2 d key) = (((Kn X key d + 8) * (1 / 512) : ℝ) : EReal) := by
  rw [keyCodes_apply, ofBits_nib]; rfl

/-- Minus the sum of a key's lattice points, and its two parts. -/
def kSum (key : Fin 640) : ℝ := 0 - ∑ d : Fin 96, Kn X key d * (1 / 512)

/-- The part of minus the sum of a key's codes that is a multiple of 1/32. -/
def kHi (key : Fin 640) : ℝ := Ideal.roundHalfEven (kSum X key * 32) * (1 / 32)

/-- The first product's left operand: the key's codes, then the two parts of minus their sum. -/
theorem keys_apply (key : Fin 640) (k : Fin 128) :
    keys (keyCodes X.k) (ix2 key k) = ((if h : k.val < 96 then Kn X key ⟨k, h⟩ * (1 / 512) else
      if k.val = 96 then kHi X key else if k.val = 97 then kSum X key - kHi X key else 0 : ℝ) : EReal) := by
  have hs : ∀ d : Fin 96, (((Kn X key d + 8) * (1 / 512) : ℝ) : EReal) - ((8 * (1 / 512) : ℝ) : EReal) = ((Kn X key d * (1 / 512) : ℝ) : EReal) := by
    intro d; rw [← EReal.coe_sub]; congr 1; ring
  unfold keys
  pointwise
  simp only [keyCodes_real, ofBits_64th, ofBits_32, ofBits_32nd, hs]
  have hsum : (0 : EReal) - ∑ x : Fin 96, ((Kn X key x * (1 / 512) : ℝ) : EReal) = ((kSum X key : ℝ) : EReal) := by
    rw [coe_sum, ← EReal.coe_zero, ← EReal.coe_sub]; rfl
  have hhi : Ideal.liftRound Ideal.roundHalfEven (((kSum X key : ℝ) : EReal) * ((32 : ℝ) : EReal)) * ((1 / 32 : ℝ) : EReal) = ((kHi X key : ℝ) : EReal) := by
    rw [← EReal.coe_mul, Ideal.liftRound_coe, ← EReal.coe_mul]; rfl
  rw [hsum, hhi, ← EReal.coe_sub]
  have hc : ∀ n c : ℕ, n < 32 → c < 32 → IntOp.cmpi CmpIPredicate.eq (BitVec.ofNat 32 n) (BitVec.ofNat 32 c) = if n = c then 1#1 else 0#1 := by
    intro n c hn hc
    by_cases e : n = c
    · subst e; simp [IntOp.cmpi]
    · have : BitVec.ofNat 32 n ≠ BitVec.ofNat 32 c := fun h => e (by
        have := congrArg BitVec.toNat h
        rw [BitVec.toNat_ofNat, BitVec.toNat_ofNat] at this
        omega)
      rw [if_neg e]
      show BitVec.ofBool (BitVec.ofNat 32 n == BitVec.ofNat 32 c) = 0#1
      rw [beq_false_of_ne this]
      rfl
  have hk := k.2
  split_ifs with h h1 h2
  · rfl
  · rw [hc _ 0 (by omega) (by omega), if_pos (by omega)]; rfl
  · rw [hc _ 0 (by omega) (by omega), hc _ 1 (by omega) (by omega), if_neg (by omega), if_pos (by omega)]; rfl
  · rw [hc _ 0 (by omega) (by omega), hc _ 1 (by omega) (by omega), if_neg (by omega), if_neg (by omega)]; rfl

variable {E : Env Ideal} {X : Blocks} (hE : E.Of X)
include hE

/-- The query operand of a tile's product: the biased nibbles' numbers, and constant rows. -/
theorem rhs8_apply (t : Fin 20) (k : Fin 128) (col : Fin 256) :
    (bitcastToFloat .fp8e4m3 (bitcast S128x256 8 (shapeCast S32x256 (rd (s := S20x32x256) E.rhsW (rhsL E) ![t, 0, 0] ![1, 32, 256] : IVec S1x32x256 32)
      (by decide)) (by decide)) : FVec Ideal S128x256 .fp8e4m3) (ix2 k col)
      = ((if h : k.val < 96 then (Qn X ⟨col / 32, by omega⟩ ⟨32 * t + col % 32, by omega⟩ ⟨k, h⟩ + 8) * (1 / 512) else 8 * (1 / 512) : ℝ) : EReal) := by
  have hk := k.2
  have h4 : k.val = 4 * (k.val / 4) + k.val % 4 := by omega
  rw [bitcastToFloat_apply, bitcast_32_8_ix2 _ _ ⟨k / 4, by omega⟩ col (k % 4) (by omega) k h4]
  pointwise
  rw [rhs_apply]
  show Ideal.ofBits .fp8e4m3 (byte (rhsG E t (k / 4) col) (k % 4)) = _
  split_ifs with h
  · rw [byte_rhsG hE t (k / 4) (k % 4) (by omega) (by omega), ofBits_nib]
    simp only [← h4]
    rfl
  · rw [rhsG, dif_neg (by omega), (by decide : ∀ j < 4, byte 134744072#32 j = 8#8) _ (by omega), ofBits_small _ (by decide)]
    rfl

/-- The dot product of a key's nibbles with a query's. -/
def dotKQ (X : Blocks) (key : Fin 640) (h : Fin 8) (S : Fin 640) : ℝ := ∑ d : Fin 96, Kn X key d * Qn X h S d

/-- The first product is the product of the signed codes, in units of 2^-18: the two added rows cancel the queries' 8 units. -/
theorem aMat_apply (t : Fin 20) (key : Fin (32 * (t.val + 1))) (col : Fin 256) :
    aMat E t (ix2 key col) = ((dotKQ X ⟨key, by omega⟩ ⟨col / 32, by omega⟩ ⟨32 * t + col % 32, by omega⟩ * (1 / 262144) : ℝ) : EReal) := by
  unfold aMat
  refine (matmul_zero _ _ key col).trans ?_
  have hk : ∀ k : Fin 128, kkRows E (32 * (t.val + 1)) (ix2 key k) = _ := fun k =>
    (kkRows_apply hE (32 * (t.val + 1)) (by omega) key k).trans (keys_apply X _ k)
  simp only [hk, rhs8_apply hE, ← EReal.coe_mul]
  rw [coe_sum]
  congr 1
  rw [sum_rows]
  · have e : ∀ d : Fin 96, (⟨d.val, by omega⟩ : Fin 128).val < 96 := fun d => d.2
    simp only [e, dif_pos, show ¬ ((96 : Fin 128).val < 96) by decide, show ¬ ((97 : Fin 128).val < 96) by decide, dif_neg, not_false_eq_true,
      show (96 : Fin 128).val = 96 from rfl, show (97 : Fin 128).val = 97 from rfl, if_true, show ¬ (97 = 96) by decide, if_false, lt_irrefl, dite_false, show ¬ (97 < 96) by decide]
    have hd : (∑ d : Fin 96, Kn X ⟨key, by omega⟩ d * (1 / 512) * ((Qn X ⟨col / 32, by omega⟩ ⟨32 * t + col % 32, by omega⟩ d + 8) * (1 / 512)))
        = dotKQ X ⟨key, by omega⟩ ⟨col / 32, by omega⟩ ⟨32 * t + col % 32, by omega⟩ * (1 / 262144)
          + (∑ d : Fin 96, Kn X ⟨key, by omega⟩ d * (1 / 512)) * (8 * (1 / 512)) := by
      rw [dotKQ, Finset.sum_mul, Finset.sum_mul, ← Finset.sum_add_distrib]
      refine Finset.sum_congr rfl fun d _ => ?_
      ring
    refine (congrArg (· + _) hd).trans ?_
    simp only [kSum]
    ring
  · intro k h
    rw [dif_neg (by omega), if_neg (by omega), if_neg (by omega), zero_mul]

end Cert.KernelIdeal.Model
-- ==== Proof.Mean.lean ====
module

public import proofs.«01_k».proof.Proof.Keys

/-! # The scores' second product: keys against the query mean -/

@[expose] public section

set_option maxRecDepth 16384

noncomputable section

namespace Cert.KernelIdeal.Model

open Idealize.ShloMosaic Idealize.SL.Sem Cert.KernelIdeal.Bytes

/-- The dot product of a key with its query head's mean. -/
def btDot (X : Blocks) (i : Fin 5) (key : Fin 640) (h : Fin 8) : EReal := ∑ d : Fin 96, ((Kn X key d * (1 / 512) : ℝ) : EReal) * Qm X i h d

variable {E : Env Ideal} {X : Blocks} (hE : E.Of X)
include hE

omit hE in
/-- An element of the padded and transposed query means. -/
theorem qmPad_apply (x : Vec Ideal S1x1x8x96 .bf16) (r c : Fin 128) (hr : r.val < 96) (hc : c.val < 8) :
    qmPad x (ix2 r c) = x (ix4 0 0 ⟨c, hc⟩ ⟨r, hr⟩) := by
  pointwise [qmPad]
  rw [dif_pos hr, dif_pos hc]

/-- An even or odd channel of the query means. -/
theorem qmRows_apply (i : Fin 5) (b : ℕ) (hb : b < 2) (r : Fin 48) (c : Fin 128) (hc : c.val < 8) :
    qmRows E i b hb (ix2 r c) = X.qm (ix4 0 i ⟨c, hc⟩ ⟨2 * r + b, by omega⟩) := by
  have hi := i.2
  unfold qmRows
  rw [View.readCov_eq_canon', qmL, pcs, pc, dif_pos (by decide)]
  refine (View.canon_append_of_pieces (Val := Elt Ideal) (S := S128x128) (e := .f32)
    (qmPad (ldAt E.qm ![0, i, 0, 0] ![1, 1, 8, 96])) _ _ ?_ _ ?_).trans ?_
  · intro p hp x
    rw [List.mem_singleton] at hp
    subst hp
    show qmPad _ _ = qmPad _ _
    congr 1
    funext a
    apply Fin.ext
    fin_cases a <;> simp [Rect.emb_apply]
  · refine ⟨_, List.mem_singleton_self _, ?_⟩
    refine (Rect.mem_set_unit (s := S128x128) (inb := by decide)).2 ?_
    have h1 := r.2
    have h2 := c.2
    intro a
    fin_cases a <;> simp [LoadRect.idx] <;> omega
  · have ei : ∀ B : LoadRect S128x128, ∀ j : B.shape.Idx, ∀ (h0 : (B.idx j 0).val = 2 * r + b) (h1 : (B.idx j 1).val = c),
        B.idx j = (ix2 ⟨2 * r + b, by omega⟩ ⟨c, c.2⟩ : S128x128.Idx) := by
      intro B j h0 h1
      funext a
      apply Fin.ext
      fin_cases a
      · exact h0
      · exact h1
    rw [ei _ _ (by simp [LoadRect.idx]; omega) (by simp [LoadRect.idx]), qmPad_apply _ ⟨2 * r + b, by omega⟩ ⟨c, c.2⟩ (by show 2 * r.val + b < 96; omega) hc,
      ldAt_eq E.qm X.qm hE.qm ![0, i, 0, 0] ![1, 1, 8, 96] (by intro a; fin_cases a <;> simp [S1x5x8x96] <;> omega)]
    congr 1
    funext a
    apply Fin.ext
    fin_cases a <;> simp [LoadRect.idx]

/-- The channel of the query means in the kernel's order. -/
theorem qmRows_feat (i : Fin 5) (b : ℕ) (hb : b < 2) (r : Fin 48) (c : Fin 128) (h : Fin 8) (d : Fin 96) (hc : c.val = h)
    (hf : 2 * r.val + b = feat d) : qmRows E i b hb (ix2 r c) = Qm X i h d := by
  have hh := h.2
  rw [qmRows_apply hE i b hb r c (by omega), Qm]
  congr 2
  · exact Fin.ext hc
  · exact Fin.ext hf

omit hE in
/-- The head that a lane gathers. -/
theorem lane_head (b : ℕ) (hb : b = 0 ∨ b = 4) (r : Fin 96) (l : Fin 128) :
    (laneIdx 96 (BitVec.ofNat 32 b) (ix2 r l)).toNat % 128 = b + l / 32 := by
  rw [laneIdx_apply 96 b (.inl rfl) (by omega), BitVec.toNat_ofNat]
  have := l.2
  omega

omit hE in
/-- The channel at each place of the kernel's order. -/
theorem feat_val (d : Fin 96) : (feat d).val = if d.val < 32 then 2 * d.val else if d.val < 64 then 2 * (d.val - 32) + 1
    else if d.val < 80 then 2 * (d.val - 32) else 2 * (d.val - 48) + 1 := by
  have hd := d.2
  unfold feat byteRow hiRow
  dsimp only
  split_ifs with h1 h2 h3
  · rw [decide_eq_false (by omega)]; simp
  · rw [decide_eq_true (by omega)]; simp
  · rw [decide_eq_false (by omega)]; simp
  · rw [decide_eq_true (by omega)]; simp

omit hE in
/-- The second product's right operand, from the even and the odd channels. -/
theorem qmRep_rows (A B : FVec Ideal S48x128 .f32) (k : Fin 96) (c : Fin 256) (k' : Fin 128) (hk : k'.val = k) :
    qmRep A B (ix2 k' c) = bif hiRow k then B (ix2 ⟨byteRow k, byteRow_lt k.2⟩ ⟨c / 32, by omega⟩) else A (ix2 ⟨byteRow k, byteRow_lt k.2⟩ ⟨c / 32, by omega⟩) := by
  have hl0 := lane_head 0 (.inl rfl)
  have hl4 := lane_head 4 (.inr rfl)
  obtain ⟨k', hk'⟩ := k'
  obtain ⟨k, hk2⟩ := k
  dsimp only at hk
  subst hk
  have hc := c.2
  unfold qmRep
  generalize laneIdx 96 (BitVec.ofNat 32 0) = L0 at hl0 ⊢
  generalize laneIdx 96 (BitVec.ofNat 32 4) = L4 at hl4 ⊢
  pointwise
  have fin : ∀ (L : IVec S96x128 32) (b : ℕ) (l : Fin 128) (r : Fin 96), (L (ix2 r l)).toNat % 128 = b + l / 32 → b + l.val / 32 = c.val / 32 →
      (⟨(L (ix2 r l)).toNat % 128, Nat.mod_lt _ (by decide)⟩ : Fin 128) = ⟨c / 32, by omega⟩ := by
    intro L b l r h1 h2
    apply Fin.ext
    dsimp only
    omega
  rw [dif_pos hk2]
  have e : ∀ (M : FVec Ideal S48x128 .f32) (r r' : Fin 48) (x y : Fin 128), r.val = r'.val → x = y → M (ix2 r x) = M (ix2 r' y) := by
    rintro M r r' x y h rfl
    rw [Fin.ext h]
  have ht : hiRow k' = true → ∀ y z : Ideal .f32, (bif hiRow k' then y else z) = y := fun h y z => by rw [h]; rfl
  have hf : hiRow k' = false → ∀ y z : Ideal .f32, (bif hiRow k' then y else z) = z := fun h y z => by rw [h]; rfl
  have hb := byteRow_lt hk2
  by_cases hh : 32 ≤ k' ∧ k' < 64 ∨ 80 ≤ k'
  · refine Eq.trans ?_ (ht (decide_eq_true hh) _ _).symm
    split_ifs
    all_goals first
      | (exfalso; omega)
      | exact absurd rfl ‹¬ _›
      | skip
    all_goals refine e _ _ _ _ _ ?_ ?_
    all_goals first
      | exact fin L0 0 _ _ (hl0 _ _) (by dsimp only; omega)
      | exact fin L4 4 _ _ (hl4 _ _) (by dsimp only; omega)
      | (unfold byteRow; dsimp only; split_ifs <;> omega)
  · refine Eq.trans ?_ (hf (decide_eq_false hh) _ _).symm
    split_ifs
    all_goals first
      | (exfalso; omega)
      | exact absurd rfl ‹¬ _›
      | skip
    all_goals refine e _ _ _ _ _ ?_ ?_
    all_goals first
      | exact fin L0 0 _ _ (hl0 _ _) (by dsimp only; omega)
      | exact fin L4 4 _ _ (hl4 _ _) (by dsimp only; omega)
      | (unfold byteRow; dsimp only; split_ifs <;> omega)

/-- Row `k` of the mean's matrix lies at row `byteRow k` of its even or odd rows. -/
theorem qmRep_apply (i : Fin 5) (k : Fin 128) (col : Fin 256) :
    qmRep (qmRows E i 0 (by decide)) (qmRows E i 1 (by decide)) (ix2 k col)
      = if h : k.val < 96 then Qm X i ⟨col / 32, by omega⟩ ⟨k, h⟩ else 0 := by
  by_cases h : k.val < 96
  · rw [dif_pos h, qmRep_rows _ _ ⟨k, h⟩ col k rfl]
    cases e : hiRow (⟨k, h⟩ : Fin 96)
    · exact qmRows_feat hE i 0 (by decide) _ _ _ _ rfl (by unfold feat; simp only [e]; rfl)
    · exact qmRows_feat hE i 1 (by decide) _ _ _ _ rfl (by unfold feat; simp only [e]; rfl)
  · rw [dif_neg h]
    unfold qmRep
    pointwise
    rw [dif_neg h]

/-- The second product is the key's codes times the query means. -/
theorem btMat_apply (i : Fin 5) (key : Fin (128 * (i.val + 1))) (col : Fin 256) :
    btMat E i (ix2 key col) = btDot X i ⟨key, by omega⟩ ⟨col / 32, by omega⟩ := by
  have hi := i.2
  have hkey := key.2
  have hk : ∀ k : Fin 128, kkRows E (128 * (i.val + 1)) (ix2 key k) = _ :=
    fun k => (kkRows_apply hE _ (by omega) key k).trans (keys_apply X ⟨key, by omega⟩ k)
  unfold btMat
  refine (matmul_zero _ _ key col).trans ?_
  rw [btDot, sum_rows]
  · simp only [hk, qmRep_apply hE]
    simp
  · intro k h
    rw [qmRep_apply hE, dif_neg (by omega), mul_zero]

end Cert.KernelIdeal.Model
-- ==== Proof.Scores.lean ====
module

public import proofs.«01_k».proof.Proof.Mean

/-! # A query tile's scaled scores -/

@[expose] public section

set_option maxRecDepth 16384

noncomputable section

namespace Cert.KernelIdeal.Model

open Idealize.ShloMosaic Idealize.SL.Sem Cert.KernelIdeal.Bytes

/-- An element of a slice. -/
theorem slc_apply {m n : ℕ} (x : FVec Ideal ⟨2, ![m, n]⟩ .f32) (o p : ℕ) (h0 : o + 8 ≤ m) (h1 : p + 128 ≤ n) (r : Fin 8) (l : Fin 128) :
    slc (s := ⟨2, ![m, n]⟩) S8x128 ![o, p] x (ix2 r l) = x (ix2 ⟨o + r, by omega⟩ ⟨p + l, by omega⟩) := by
  have h : (⟨2, ![m, n]⟩ : Shape).Slices ![o, p] S8x128 := by
    refine ⟨rfl, ?_⟩
    intro a
    fin_cases a
    · exact h0
    · exact h1
  unfold slc
  rw [dif_pos h]
  pointwise

/-- The mask lets a query see the keys up to its own. -/
theorem mask_apply (r : ℕ) (hr : r < 4) (row : Fin 8) (l : Fin 128) :
    mask r (ix2 row l) = BitVec.ofBool (decide (8 * r + row ≤ l % 32)) := by
  have h0 := row.2
  have h1 := l.2
  have e : (BitVec.ofNat 32 l &&& 31#32) = BitVec.ofNat 32 (l % 32) := by
    apply BitVec.eq_of_toNat_eq
    rw [BitVec.toNat_and, BitVec.toNat_ofNat, BitVec.toNat_ofNat, BitVec.toNat_ofNat, show 31 % 2 ^ 32 = 2 ^ 5 - 1 from rfl, Nat.and_two_pow_sub_one_eq_mod]
    omega
  have e2 : (BitVec.ofNat 32 row + BitVec.ofNat 32 (8 * r)) = BitVec.ofNat 32 (8 * r + row) := by
    apply BitVec.eq_of_toNat_eq
    rw [BitVec.toNat_add, BitVec.toNat_ofNat, BitVec.toNat_ofNat, BitVec.toNat_ofNat]
    omega
  unfold mask
  pointwise
  show BitVec.ofBool (BitVec.sle (BitVec.ofNat 32 row + BitVec.ofNat 32 (8 * r)) (BitVec.ofNat 32 l &&& 31#32)) = _
  rw [e, e2]
  congr 1
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat]
  congr 1
  apply propext
  omega

/-- A product of three arrays, element by element. -/
theorem scaled_apply (A B : FVec Ideal S8x128 .f32) (v : Ideal .f32) (h : S8x128.ShapeCasts S8x128) (x0 : Fin 8) (x1 : Fin 128) :
    shapeCast S8x128 (mulf A (mulf B (broadcast S8x128 v))) h (ix2 x0 x1) = A (ix2 x0 x1) * (B (ix2 x0 x1) * v) := by
  pointwise

variable {E : Env Ideal} {X : Blocks} (hE : E.Of X)
include hE

/-- What the buffer of the second product holds, scaled by the key scale. -/
theorem bt_apply (i : Fin 5) (kg : ℕ) (hkg : kg < 4 * (i.val + 1)) (r : ℕ) (hr : r < 4) (c : ℕ) (hc : c < 2) (row : Fin 8) (l : Fin 128) :
    rd (s := S640x256) E.btW (btL E (i.val + 1)) ![32 * kg + 8 * r, 128 * c] ![8, 128] (ix2 row l)
      = btDot X i ⟨32 * kg + 8 * r + row, by omega⟩ ⟨4 * c + l / 32, by omega⟩ * (Kt X ⟨kg, by omega⟩ * ((512 : ℝ) : EReal)) := by
  have hi := i.2
  have h0 := row.2
  have h1 := l.2
  refine (rd_canon (s := S640x256) (e := .f32) E.btW (btL E (i.val + 1)) ![32 * kg + 8 * r, 128 * c] ![8, 128] (by intro a; fin_cases a <;> simp [S640x256] <;> omega) (ix2 row l)).trans ?_
  unfold btL
  refine (canon_pcs (s := S640x256) (e := .f32) (32 * (i.val + 1)) _ _ _
    (fun y => btDot X i (y 0) ⟨(y 1).val / 32, by have : (y 1).val < 256 := (y 1).2; omega⟩ * (Kt X ⟨(y 0).val / 32, by have : (y 0).val < 640 := (y 0).2; omega⟩ * ((512 : ℝ) : EReal))) _ ?_ _ (2 * (4 * kg + r) + c) (by omega) ?_ ?_).trans ?_
  · intro n hn h x
    idx_vars x
    have h0 := x0.2
    have h1 := x1.2
    have hk : ktRow E (n / 8) (ix2 x0 x1) = Kt X ⟨n / 8, by omega⟩ := ktRow_apply hE ⟨n / 8, by omega⟩ x0 x1
    have hs : slc (s := ⟨2, ![128 * (i.val + 1), 256]⟩) S8x128 ![8 * (n / 2), 128 * (n % 2)] (btMat E i) (ix2 x0 x1) = _ :=
      (slc_apply _ _ _ (by omega) (by omega) x0 x1).trans (btMat_apply hE i _ _)
    refine (scaled_apply _ _ _ _ x0 x1).trans ?_
    refine (congrArg₂ (· * ·) hs (congrArg₂ (· * ·) hk ofBits_512)).trans ?_
    refine congrArg₂ (· * ·) (congrArg₂ (btDot X i) (Fin.ext ?_) (Fin.ext ?_)) (congrArg (fun z => Kt X z * ((512 : ℝ) : EReal)) (Fin.ext ?_))
    · simp [Rect.emb_apply]
    · simp [Rect.emb_apply]
    · simp [Rect.emb_apply]
      omega
  · intro a; fin_cases a <;> simp [S640x256] <;> omega
  · intro a
    fin_cases a <;> simp [LoadRect.idx] <;> omega
  · refine congrArg₂ (· * ·) (congrArg₂ (btDot X i) (Fin.ext ?_) (Fin.ext ?_)) (congrArg (fun z => Kt X z * ((512 : ℝ) : EReal)) (Fin.ext ?_))
    · simp [LoadRect.idx]
    · simp [LoadRect.idx]
      omega
    · simp [LoadRect.idx]
      omega

omit hE in
/-- The base-two score of a key for the query `q` of tile `t`, the keys after it masked. -/
def score (X : Blocks) (t : Fin 20) (h : Fin 8) (q : Fin 32) (key : Fin 640) : EReal :=
  if key.val ≤ 32 * t + q then ((dotKQ X key h ⟨32 * t + q, by omega⟩ * (1 / 262144) : ℝ) : EReal) * (Kt X ⟨key / 32, by omega⟩ * (Qs X t h * ((262144 : ℝ) : EReal)))
    + btDot X ⟨t / 4, by omega⟩ key h * (Kt X ⟨key / 32, by omega⟩ * ((512 : ℝ) : EReal)) else ⊥

/-- The body's scores are the model's. -/
theorem chunk_apply (t : Fin 20) (c : Fin 2) (kg : ℕ) (hkg : kg ≤ t) (r : ℕ) (hr : r < 4) (row : Fin 8) (l : Fin 128) :
    chunk E t c kg r (ix2 row l) = score X t ⟨4 * c + l / 32, by omega⟩ ⟨l % 32, by omega⟩ ⟨32 * kg + 8 * r + row, by omega⟩ := by
  have ht := t.2
  have hc := c.2
  have h0 := row.2
  have h1 := l.2
  have hk : ktRow E kg (ix2 row l) = Kt X ⟨kg, by omega⟩ := ktRow_apply hE ⟨kg, by omega⟩ row l
  have hq : qRow E t c (ix2 row l) = Qs X t ⟨4 * c + l / 32, by omega⟩ * ((262144 : ℝ) : EReal) := by
    unfold qRow
    pointwise
    rw [qr_apply hE, ofBits_2p18]
  have hb := bt_apply hE ⟨t / 4, by omega⟩ kg (by dsimp only; omega) r hr c hc row l
  dsimp only at hb
  have ha : slc (s := ⟨2, ![32 * (t.val + 1), 256]⟩) S8x128 ![32 * kg + 8 * r, 128 * c.val] (aMat E t) (ix2 row l) = _ :=
    (slc_apply _ _ _ (by omega) (by omega) row l).trans (aMat_apply hE t _ _)
  have ex : addf (mulf (slc S8x128 ![32 * kg + 8 * r, 128 * c.val] (aMat E t)) (mulf (ktRow E kg) (qRow E t c)))
      (rd (s := S640x256) E.btW (btL E (t / 4 + 1)) ![32 * kg + 8 * r, 128 * c.val] ![8, 128]) (ix2 row l) = _ :=
    congrArg₂ (· + ·) (congrArg₂ (· * ·) ha (congrArg₂ (· * ·) hk hq)) hb
  have hS : ∀ y : EReal, y = (((dotKQ X ⟨32 * kg + 8 * r + row, by omega⟩ ⟨4 * c + l / 32, by omega⟩ ⟨32 * t + l % 32, by omega⟩ * (1 / 262144) : ℝ) : EReal) * (Kt X ⟨kg, by omega⟩ * (Qs X t ⟨4 * c + l / 32, by omega⟩ * ((262144 : ℝ) : EReal)))
    + btDot X ⟨t / 4, by omega⟩ ⟨32 * kg + 8 * r + row, by omega⟩ ⟨4 * c + l / 32, by omega⟩ * (Kt X ⟨kg, by omega⟩ * ((512 : ℝ) : EReal))) →
    (32 * kg + 8 * r + row.val ≤ 32 * t + l % 32) → y = score X t ⟨4 * c + l / 32, by omega⟩ ⟨l % 32, by omega⟩ ⟨32 * kg + 8 * r + row, by omega⟩ := by
    intro y hy hle
    rw [hy, score, if_pos hle]
    have e1 : (⟨(32 * kg + 8 * r + row.val) / 32, by omega⟩ : Fin 20) = ⟨kg, by omega⟩ := by apply Fin.ext; dsimp only; omega
    rw [e1]
  have e2 : (128 * c.val + l.val) / 32 = 4 * c + l / 32 := by omega
  have e3 : (128 * c.val + l.val) % 32 = l % 32 := by omega
  unfold chunk
  by_cases h : kg = t
  · rw [if_pos h]
    show Scalar.select (mask r (ix2 row l)) _ _ = _
    rw [mask_apply r hr]
    by_cases hle : 8 * r + row.val ≤ l % 32
    · rw [decide_eq_true hle]
      refine hS _ ?_ (by omega)
      refine ex.trans ?_
      simp only [e2, e3]
    · rw [decide_eq_false hle, score, if_neg (by dsimp only; omega)]
      exact ofBits_bot
  · rw [if_neg h]
    refine hS _ ?_ (by omega)
    refine ex.trans ?_
    simp only [e2, e3]

end Cert.KernelIdeal.Model
-- ==== Proof.Vals.lean ====
module

public import proofs.«01_k».proof.Proof.Keys

/-! # The scaled values -/

@[expose] public section

set_option maxRecDepth 16384

noncomputable section

namespace Cert.KernelIdeal.Model

open Idealize.ShloMosaic Idealize.SL.Sem Cert.KernelIdeal.Bytes

variable {E : Env Ideal} {X : Blocks} (hE : E.Of X)

/-- The key group that a lane gathers. -/
theorem lane_row (b : ℕ) (hb : b ≤ 16) (r : Fin 96) (l : Fin 128) :
    (laneIdx 96 (BitVec.ofNat 32 b) (ix2 r l)).toNat % 128 = b + l / 32 := by
  rw [laneIdx_apply 96 b (.inl rfl) (by omega), BitVec.toNat_ofNat]
  have := l.2
  omega

/-- A value's scale over 256. -/
theorem valScale_apply (x : Vec Ideal S1x20x1x96 .f32) (d : Fin 96) (n : Fin 128) (hn : n.val < 20) :
    valScale x (ix2 d n) = x (ix4 0 ⟨n, hn⟩ 0 d) * ((1 / 256 : ℝ) : EReal) := by
  have hd := d.2
  pointwise [valScale]
  rw [dif_pos hn, ofBits_256th]

/-- A value times its scale. -/
theorem valBlock_apply (b : ℕ) (hb : b ≤ 16) (y : FVec Ideal S96x128 .f32) (x : Vec Ideal S1x1x96x128 .fp8e4m3) (d : Fin 96) (l : Fin 128) :
    valBlock (BitVec.ofNat 32 b) y x (ix2 d l) = x (ix4 0 0 d l) * y (ix2 d ⟨b + l / 32, by omega⟩) := by
  have hl := lane_row b hb
  unfold valBlock
  generalize laneIdx 96 (BitVec.ofNat 32 b) = L at hl ⊢
  pointwise
  show _ * y _ = _
  congr 2
  apply congrArg
  apply Fin.ext
  exact hl d l

include hE

/-- The values' scales that the body loads. -/
theorem vs_apply (n : Fin 20) (d : Fin 96) : vs E (ix4 0 n 0 d) = X.vs (ix4 0 n X.g d) := by
  unfold vs
  rw [hE.vs]
  congr 1
  funext a
  apply Fin.ext
  have hg := hE.g
  fin_cases a <;> simp [LoadRect.idx, hg]

/-- What the buffer of the scaled values holds. -/
theorem vwRows_apply (n : ℕ) (hn : n ≤ 640) (d : Fin 96) (key : Fin n) :
    rd (s := S96x640) E.vwW (vwL E) ![0, 0] ![96, n] (ix2 d key) = Vw X d ⟨key, by omega⟩ := by
  have hkey := key.2
  have hd := d.2
  refine (rd_canon (s := S96x640) (e := .bf16) E.vwW (vwL E) ![0, 0] ![96, n] (by intro a; fin_cases a <;> simp [S96x640] <;> omega) (ix2 d key)).trans ?_
  unfold vwL
  refine (canon_pcs_nil (s := S96x640) (e := .bf16) 5 _ _ _ (fun y => Vw X (y 0) (y 1)) ?_ _ (key.val / 128) (by omega) ?_ ?_).trans ?_
  · intro i hi h x
    idx_vars x
    have h0 := x0.2
    have h1 := x1.2
    refine (valBlock_apply (4 * i) (by omega) _ _ x0 x1).trans ?_
    rw [valScale_apply _ _ _ (by dsimp only; omega), vs_apply hE,
      ldAt_eq E.v X.v hE.v ![0, 0, 0, 128 * i] ![1, 1, 96, 128] (by intro a; fin_cases a <;> simp [S1x1x96x640] <;> omega)]
    show _ = Vw X _ _
    unfold Vw
    congr 2
    · congr 1
      funext a
      apply Fin.ext
      fin_cases a <;> simp [LoadRect.idx, Rect.emb_apply]
    · congr 2 <;> apply Fin.ext <;> simp [Rect.emb_apply]
      omega
  · intro a; fin_cases a <;> simp [S96x640] <;> omega
  · intro a
    fin_cases a <;> simp [LoadRect.idx] <;> omega
  · congr 1 <;> apply Fin.ext <;> simp [LoadRect.idx]

end Cert.KernelIdeal.Model
-- ==== Proof.Softmax.lean ====
module

public import proofs.«01_k».proof.Proof.Scores
public import proofs.«01_k».proof.Proof.Vals
public import Idealize.ShloMosaic.Lib.Pipeline.Value

/-! # A query tile's probabilities -/

@[expose] public section

set_option maxRecDepth 16384

noncomputable section

namespace Cert.KernelIdeal.Model

open Idealize.ShloMosaic Idealize.SL.Sem Cert.KernelIdeal.Bytes

/-- The maximum over rows, broadcast back. -/
theorem rowMax_shape (x : FVec Ideal S8x128 .f32) (r : Fin 8) (l : Fin 128) :
    broadcastTo S8x128 (shapeCast S1x128 (multiReduction .maximumf [0] S128 x 0xFF800000#32 (by decide) (.inl rfl) rfl) (by decide)) (by decide) (ix2 r l)
      = Finset.univ.sup fun r : Fin 8 => x (ix2 r l) := by
  pointwise
  rw [ofBits_bot]
  rfl

/-- The clipped quotient of 256 and a sum over rows, broadcast back. -/
theorem factor_shape (x : FVec Ideal S8x128 .f32) (r : Fin 8) (l : Fin 128) :
    broadcastTo S8x128 (minimumf (broadcast S1x128 (Scalar.ofBits .f32 0x43E00000#32)) (maximumf (broadcast S1x128 (Scalar.ofBits .f32 0x00000000#32)) (divf (broadcast S1x128 (Scalar.ofBits .f32 0x43800000#32)) (shapeCast S1x128 (multiReduction .add [0] S128 x 0x00000000#32 (by decide) (.inl rfl) rfl) (by decide))))) (by decide) (ix2 r l)
      = min ((448 : ℝ) : EReal) (max 0 (Ideal.div ((256 : ℝ) : EReal) (∑ r : Fin 8, x (ix2 r l)))) := by
  pointwise
  rw [ofBits_448, ofBits_256]

/-- A bound of a folded maximum. -/
theorem foldl1_max (f : ℕ → FVec Ideal S8x128 .f32) (n : ℕ) (j : S8x128.Idx) (z : EReal) :
    foldl1 maximumf f n j ≤ z ↔ ∀ k ≤ n, f k j ≤ z := by
  induction n with
  | zero => simp [foldl1]
  | succ n ih =>
    show max (foldl1 maximumf f n j) (f (n + 1) j) ≤ z ↔ _
    rw [max_le_iff, ih]
    constructor
    · rintro ⟨h1, h2⟩ k hk
      rcases Nat.lt_or_ge n k with h | h
      · obtain rfl : k = n + 1 := by omega
        exact h2
      · exact h1 k h
    · intro h
      exact ⟨fun k hk => h k (by omega), h _ le_rfl⟩

/-- A folded sum. -/
theorem foldl1_add (f : ℕ → FVec Ideal S8x128 .f32) (n : ℕ) (j : S8x128.Idx) :
    foldl1 addf f n j = ∑ k ∈ Finset.range (n + 1), (f k j : EReal) := by
  induction n with
  | zero => simp [foldl1]
  | succ n ih =>
    rw [Finset.sum_range_succ, ← ih]
    rfl

/-- A sum over key groups is a sum over keys. -/
theorem sum_blocks (g : ℕ → EReal) (n : ℕ) :
    ∑ k ∈ Finset.range n, ∑ x ∈ Finset.range 32, g (32 * k + x) = ∑ k ∈ Finset.range (32 * n), g k := by
  induction n with
  | zero => simp
  | succ n ih => rw [Finset.sum_range_succ, ih, Nat.mul_succ, Finset.sum_range_add]

/-- The kernel's order of summing the keys is a sum over keys. -/
theorem sum_groups (g : ℕ → EReal) (n : ℕ) :
    (∑ r : Fin 8, ((∑ k ∈ Finset.range n, g (32 * k + 8 * 0 + r) + ∑ k ∈ Finset.range n, g (32 * k + 8 * 1 + r))
      + (∑ k ∈ Finset.range n, g (32 * k + 8 * 2 + r) + ∑ k ∈ Finset.range n, g (32 * k + 8 * 3 + r)))) = ∑ k ∈ Finset.range (32 * n), g k := by
  rw [← sum_blocks]
  simp only [← Finset.sum_add_distrib]
  rw [Finset.sum_comm]
  refine Finset.sum_congr rfl fun k _ => ?_
  have h : ∑ x ∈ Finset.range 32, g (32 * k + x) = ∑ r ∈ Finset.range 8, (g (32 * k + 8 * 0 + r) + g (32 * k + 8 * 1 + r) + (g (32 * k + 8 * 2 + r) + g (32 * k + 8 * 3 + r))) := by
    rw [show 32 = 8 + 8 + (8 + 8) from rfl, Finset.sum_range_add, Finset.sum_range_add, Finset.sum_range_add]
    simp only [Finset.sum_add_distrib, Nat.add_assoc, Nat.mul_zero, Nat.zero_add, Nat.mul_one, Nat.reduceAdd, Nat.reduceMul]
    simp only [show ∀ x, 16 + (8 + x) = 24 + x by omega]
  rw [h, ← Fin.sum_univ_eq_sum_range]

/-- A sum over the first keys is a sum over all keys if the rest is zero. -/
theorem sum_fin (f : Fin 640 → EReal) (n : ℕ) (hn : n ≤ 640) (h : ∀ k : Fin 640, n ≤ k.val → f k = 0) :
    ∑ k ∈ Finset.range n, (if h : k < 640 then f ⟨k, h⟩ else 0) = ∑ k, f k := by
  have e : ∑ k, f k = ∑ k ∈ Finset.range 640, (if h : k < 640 then f ⟨k, h⟩ else 0) := by
    rw [← Fin.sum_univ_eq_sum_range]
    exact Finset.sum_congr rfl fun k _ => by rw [dif_pos k.2]
  rw [e]
  refine Finset.sum_subset (Finset.range_mono hn) fun k hk hk' => ?_
  rw [Finset.mem_range] at hk hk'
  rw [dif_pos hk]
  exact h _ (by dsimp only; omega)

/-- A sum over the first keys is a sum over all keys if the rest is zero. -/
theorem sum_fin' (f : Fin 640 → EReal) (n : ℕ) (hn : n ≤ 640) (h : ∀ k : Fin 640, n ≤ k.val → f k = 0) :
    ∑ k : Fin n, f ⟨k, by omega⟩ = ∑ k, f k := by
  rw [← sum_fin f n hn h, ← Fin.sum_univ_eq_sum_range]
  exact Finset.sum_congr rfl fun k _ => by rw [dif_pos (lt_of_lt_of_le k.2 hn)]

variable (X : Blocks)

/-- The greatest score of a query. -/
def top (t : Fin 20) (h : Fin 8) (q : Fin 32) : EReal := Finset.univ.sup (score X t h q)
/-- A key's exponential, before normalisation. -/
def expo (t : Fin 20) (h : Fin 8) (q : Fin 32) (key : Fin 640) : EReal := Ideal.exp2 (score X t h q key - top X t h q)
/-- The factor of a query's exponentials. -/
def fac (t : Fin 20) (h : Fin 8) (q : Fin 32) : EReal := min ((448 : ℝ) : EReal) (max 0 (Ideal.div ((256 : ℝ) : EReal) (∑ key, expo X t h q key)))
/-- A key's probability, times 256. -/
def prob (t : Fin 20) (h : Fin 8) (q : Fin 32) (key : Fin 640) : EReal := expo X t h q key * fac X t h q

/-- The power of two of a masked key is 0. -/
theorem expo_masked (t : Fin 20) (h : Fin 8) (q : Fin 32) (key : Fin 640) (hk : 32 * t.val + q < key) : expo X t h q key = 0 := by
  rw [expo, score, if_neg (by omega), sub_eq_add_neg, EReal.bot_add]
  rfl

/-- The probability of a masked key is 0. -/
theorem prob_masked (t : Fin 20) (h : Fin 8) (q : Fin 32) (key : Fin 640) (hk : 32 * t.val + q < key) : prob X t h q key = 0 := by
  rw [prob, expo_masked X t h q key hk, zero_mul]

variable {X} {E : Env Ideal} (hE : E.Of X)
include hE

/-- The body's maximum is the model's. -/
theorem rowMax_apply (t : Fin 20) (c : Fin 2) (r : Fin 8) (l : Fin 128) :
    rowMax E t c (ix2 r l) = top X t ⟨4 * c + l / 32, by omega⟩ ⟨l % 32, by omega⟩ := by
  have ht := t.2
  unfold rowMax
  refine (rowMax_shape _ r l).trans ?_
  refine eq_of_forall_ge_iff fun z => ?_
  rw [top, Finset.sup_le_iff, Finset.sup_le_iff]
  have hm : ∀ (r : Fin 8), maximumf (maximumf (foldl1 maximumf (fun kg => chunk E t c kg 0) t) (foldl1 maximumf (fun kg => chunk E t c kg 1) t))
      (maximumf (foldl1 maximumf (fun kg => chunk E t c kg 2) t) (foldl1 maximumf (fun kg => chunk E t c kg 3) t)) (ix2 r l) ≤ z ↔
      ((∀ k ≤ t.val, chunk E t c k 0 (ix2 r l) ≤ z) ∧ (∀ k ≤ t.val, chunk E t c k 1 (ix2 r l) ≤ z)) ∧
      ((∀ k ≤ t.val, chunk E t c k 2 (ix2 r l) ≤ z) ∧ (∀ k ≤ t.val, chunk E t c k 3 (ix2 r l) ≤ z)) := by
    intro r
    show max (max _ _) (max _ _) ≤ z ↔ _
    rw [max_le_iff, max_le_iff, max_le_iff, foldl1_max, foldl1_max, foldl1_max, foldl1_max]
  constructor
  · intro h key _
    by_cases hk : key.val ≤ 32 * t + l % 32
    · have h1 := (hm ⟨key % 8, by omega⟩).1 (h _ (Finset.mem_univ _))
      have h2 : ∀ r : ℕ, r = key / 8 % 4 → chunk E t c (key / 32) r (ix2 ⟨key % 8, by omega⟩ l) ≤ z := by
        intro r hr
        have hr' : r = 0 ∨ r = 1 ∨ r = 2 ∨ r = 3 := by omega
        rcases hr' with rfl | rfl | rfl | rfl
        · exact h1.1.1 _ (by omega)
        · exact h1.1.2 _ (by omega)
        · exact h1.2.1 _ (by omega)
        · exact h1.2.2 _ (by omega)
      have h3 := h2 _ rfl
      rw [chunk_apply hE t c (key / 32) (by omega) _ (by omega)] at h3
      have e : (⟨32 * (key / 32) + 8 * (key / 8 % 4) + key % 8, by omega⟩ : Fin 640) = key := Fin.ext (by dsimp only; omega)
      dsimp only at h3
      rwa [e] at h3
    · rw [score, if_neg hk]
      exact bot_le
  · intro h r _
    refine (hm r).2 ?_
    have : ∀ r' < 4, ∀ k ≤ t.val, chunk E t c k r' (ix2 r l) ≤ z := by
      intro r' hr' k hk
      rw [chunk_apply hE t c k hk r' hr']
      exact h _ (Finset.mem_univ _)
    exact ⟨⟨this 0 (by decide), this 1 (by decide)⟩, this 2 (by decide), this 3 (by decide)⟩

/-- The body's powers of two are the model's. -/
theorem expChunk_apply (t : Fin 20) (c : Fin 2) (kg : ℕ) (hkg : kg ≤ t) (r : ℕ) (hr : r < 4) (row : Fin 8) (l : Fin 128) :
    expChunk E t c kg r (ix2 row l) = expo X t ⟨4 * c + l / 32, by omega⟩ ⟨l % 32, by omega⟩ ⟨32 * kg + 8 * r + row, by omega⟩ := by
  have h : expChunk E t c kg r (ix2 row l) = Ideal.exp2 (chunk E t c kg r (ix2 row l) - rowMax E t c (ix2 row l)) := rfl
  rw [h, chunk_apply hE t c kg hkg r hr, rowMax_apply hE, expo]

/-- The body's factor is the model's. -/
theorem factor_apply (t : Fin 20) (c : Fin 2) (r : Fin 8) (l : Fin 128) :
    factor E t c (ix2 r l) = fac X t ⟨4 * c + l / 32, by omega⟩ ⟨l % 32, by omega⟩ := by
  have ht := t.2
  unfold factor
  refine (factor_shape _ r l).trans ?_
  rw [fac, ← sum_fin (expo X t ⟨4 * c + l / 32, by omega⟩ ⟨l % 32, by omega⟩) (32 * (t + 1)) (by omega)
    (fun k hk => expo_masked X _ _ _ _ (by dsimp only; omega)), ← sum_groups]
  refine congrArg (fun z => min _ (max 0 (Ideal.div _ z))) (Finset.sum_congr rfl fun row _ => ?_)
  have hs : ∀ r' < 4, foldl1 addf (fun kg => expChunk E t c kg r') t (ix2 row l) = ∑ k ∈ Finset.range (t + 1),
      (fun k : ℕ => if h : k < 640 then expo X t ⟨4 * c + l / 32, by omega⟩ ⟨l % 32, by omega⟩ ⟨k, h⟩ else 0) (32 * k + 8 * r' + row) := by
    intro r' hr'
    rw [foldl1_add]
    refine Finset.sum_congr rfl fun k hk => ?_
    rw [Finset.mem_range] at hk
    have := row.2
    rw [expChunk_apply hE t c k (by omega) r' hr']
    dsimp only
    rw [dif_pos (by omega)]
  exact congrArg₂ (· + ·) (congrArg₂ (· + ·) (hs 0 (by decide)) (hs 1 (by decide))) (congrArg₂ (· + ·) (hs 2 (by decide)) (hs 3 (by decide)))

/-- A key group's probabilities are the model's. -/
theorem probPart_apply (t : Fin 20) (c : Fin 2) (kg : Fin 20) (row : Fin 32) (l : Fin 128) :
    probPart E t c kg (ix2 row l) = prob X t ⟨4 * c + l / 32, by omega⟩ ⟨l % 32, by omega⟩ ⟨32 * kg + row, by omega⟩ := by
  have hrow := row.2
  unfold probPart
  by_cases h : kg.val ≤ t.val
  · rw [if_pos h]
    have he : ∀ (r : ℕ) (hr : r < 4) (row : Fin 8), mulf (expChunk E t c kg r) (factor E t c) (ix2 row l)
        = prob X t ⟨4 * c + l / 32, by omega⟩ ⟨l % 32, by omega⟩ ⟨32 * kg + 8 * r + row, by omega⟩ := by
      intro r hr row
      exact congrArg₂ (· * ·) (expChunk_apply hE t c kg h r hr row l) (factor_apply hE t c row l)
    have h0 := he 0 (by decide)
    have h1 := he 1 (by decide)
    have h2 := he 2 (by decide)
    have h3 := he 3 (by decide)
    unfold probGroup
    generalize mulf (expChunk E t c kg 0) (factor E t c) = y0 at h0 ⊢
    generalize mulf (expChunk E t c kg 1) (factor E t c) = y1 at h1 ⊢
    generalize mulf (expChunk E t c kg 2) (factor E t c) = y2 at h2 ⊢
    generalize mulf (expChunk E t c kg 3) (factor E t c) = y3 at h3 ⊢
    pointwise
    simp only [h0, h1, h2, h3]
    split_ifs <;> refine congrArg _ (Fin.ext ?_) <;> dsimp only <;> omega
  · rw [if_neg h, prob_masked X _ _ _ _ (by dsimp only; omega)]
    pointwise
    simp [Ideal.ofBits, Ideal.e4m3fn]

omit hE in
/-- The key groups' probabilities fit together. -/
theorem quad_shapes : ∀ i < 5, Shape.Concatenates (List.ofFn fun _ : Fin (4 * (i + 1)) => S32x128) ⟨2, ![128 * (i + 1), 128]⟩ 0 := by decide

omit hE in
/-- The two quads' probabilities fit together. -/
theorem both_shapes : ∀ i < 5, Shape.Concatenates [⟨2, ![128 * (i + 1), 128]⟩, ⟨2, ![128 * (i + 1), 128]⟩] ⟨2, ![128 * (i + 1), 256]⟩ 1 := by decide

/-- Four heads' probabilities are the model's. -/
theorem probQuad_apply (t : Fin 20) (c : Fin 2) (key : Fin (128 * (t / 4 + 1))) (l : Fin 128) :
    probQuad E t c (ix2 key l) = prob X t ⟨4 * c + l / 32, by omega⟩ ⟨l % 32, by omega⟩ ⟨key, by omega⟩ := by
  have ht := t.2
  have hkey := key.2
  have h : Shape.Concatenates ((List.ofFn fun n : Fin (4 * (t.val / 4 + 1)) => (⟨S32x128, probPart E t c n⟩ : (s : Shape) × (s.Idx → Ideal .fp8e4m3))).map (·.1)) ⟨2, ![128 * (t / 4 + 1), 128]⟩ 0 := by
    rw [List.map_ofFn]
    exact quad_shapes _ (by omega)
  unfold probQuad
  rw [dif_pos h]
  refine (concatenate_ofFn_apply 0 (fun n : Fin (4 * (t.val / 4 + 1)) => probPart E t c n) h rfl 32 rfl (ix2 key l) ⟨key / 32, by omega⟩ rfl
    (ix2 ⟨key % 32, by omega⟩ l) rfl ?_).trans ?_
  · intro b hb
    fin_cases b
    · exact absurd rfl hb
    · rfl
  · refine (probPart_apply hE t c ⟨key / 32, by omega⟩ _ l).trans ?_
    refine congrArg _ (Fin.ext ?_)
    dsimp only
    omega

/-- The probabilities are the model's. -/
theorem probs_apply (t : Fin 20) (key : Fin (128 * (t / 4 + 1))) (col : Fin 256) :
    probs E t (ix2 key col) = prob X t ⟨col / 32, by omega⟩ ⟨col % 32, by omega⟩ ⟨key, by omega⟩ := by
  have ht := t.2
  have hcol := col.2
  have h := both_shapes (t / 4) (by omega)
  have h0 : ∀ (key : Fin (128 * (t / 4 + 1))) (l : Fin 128), probQuad E t 0 (ix2 key l) = prob X t ⟨l / 32, by omega⟩ ⟨l % 32, by omega⟩ ⟨key, by omega⟩ := by
    intro key l
    refine (probQuad_apply hE t 0 key l).trans ?_
    refine congrArg (fun z => prob X t z _ _) (Fin.ext ?_)
    simp
  have h1 : ∀ (key : Fin (128 * (t / 4 + 1))) (l : Fin 128), probQuad E t 1 (ix2 key l) = prob X t ⟨4 + l / 32, by omega⟩ ⟨l % 32, by omega⟩ ⟨key, by omega⟩ :=
    probQuad_apply hE t 1
  unfold probs
  rw [dif_pos h]
  generalize probQuad E t 0 = y0 at h0 ⊢
  generalize probQuad E t 1 = y1 at h1 ⊢
  pointwise
  split_ifs with hc
  · exact h0 key ⟨col, hc⟩
  · refine (h1 key ⟨col - 128, by omega⟩).trans ?_
    refine congrArg₂ (fun z w => prob X t z w _) (Fin.ext ?_) (Fin.ext ?_) <;> dsimp only <;> omega
  · exact absurd rfl ‹¬ _›

end Cert.KernelIdeal.Model
-- ==== Proof.Tile.lean ====
module

public import proofs.«01_k».proof.Proof.Softmax

/-! # What the body stores for a query tile -/

@[expose] public section

set_option maxRecDepth 16384

noncomputable section

namespace Cert.KernelIdeal.Model

open Idealize.ShloMosaic Idealize.SL.Sem Cert.KernelIdeal.Bytes

/-- The first four heads' output. -/
theorem outQuad0_apply (M : FVec Ideal S128x256 .bf16) (r d : Fin 128) : outQuad0 M (ix2 r d) = M (ix2 d ⟨r, by omega⟩) := by
  pointwise [outQuad0]

/-- The last four heads' output. -/
theorem outQuad1_apply (M : FVec Ideal S128x256 .bf16) (r d : Fin 128) : outQuad1 M (ix2 r d) = M (ix2 d ⟨128 + r, by omega⟩) := by
  pointwise [outQuad1]

variable {X : Blocks} {E : Env Ideal} (hE : E.Of X)

/-- The output of a query: its probabilities against the scaled values. -/
def outAt (X : Blocks) (t : Fin 20) (h : Fin 8) (q : Fin 32) (d : Fin 96) : EReal := ∑ key : Fin 640, Vw X d key * prob X t h q key

include hE

/-- The last product is the model's output. -/
theorem outMat_apply (t : Fin 20) (d : Fin 128) (hd : d.val < 96) (col : Fin 256) :
    outMat E t (ix2 d col) = outAt X t ⟨col / 32, by omega⟩ ⟨col % 32, by omega⟩ ⟨d, hd⟩ := by
  have ht := t.2
  have hm : ∀ (d : Fin 96) (col : Fin 256), matmul (φ₁ := .bf16) (DotDims.plain 96 (128 * (t.val / 4 + 1)) 256) none
      (rd (s := S96x640) E.vwW (vwL E) ![0, 0] ![96, 128 * (t.val / 4 + 1)]) (probs E t) (constant S96x256 .f32 0x00000000#32) (ix2 d col)
      = outAt X t ⟨col / 32, by omega⟩ ⟨col % 32, by omega⟩ d := by
    intro d col
    refine (matmul_zero _ _ d col).trans ?_
    rw [outAt, ← sum_fin' _ (128 * (t.val / 4 + 1)) (by omega) (fun k hk => by
      rw [prob_masked X _ _ _ _ (by dsimp only; omega), mul_zero])]
    refine Finset.sum_congr rfl fun key _ => ?_
    exact congrArg₂ (· * ·) (vwRows_apply hE _ (by omega) d key) (probs_apply hE t key col)
  unfold outMat
  generalize matmul (φ₁ := .bf16) (DotDims.plain 96 (128 * (t.val / 4 + 1)) 256) none
      (rd (s := S96x640) E.vwW (vwL E) ![0, 0] ![96, 128 * (t.val / 4 + 1)]) (probs E t) (constant S96x256 .f32 0x00000000#32) = M at hm ⊢
  pointwise
  rw [dif_pos hd, hm]

/-- What the body stores for a tile is the model's output. -/
theorem tile_apply (t : Fin 20) (z : Fin 1) (q : Fin 32) (j : Fin 768) :
    tile E t (ix3 z q j) = outAt X t ⟨j / 96, by omega⟩ q ⟨j % 96, by omega⟩ := by
  have ho := outMat_apply hE t
  have hj := j.2
  have hq := q.2
  have key : ∀ (d : Fin 128) (col : Fin 256), d.val = j % 96 → col.val = 32 * (j / 96) + q → outMat E t (ix2 d col) = outAt X t ⟨j / 96, by omega⟩ q ⟨j % 96, by omega⟩ := by
    intro d col hd hcol
    rw [ho d (by omega) col]
    have e1 : (⟨col / 32, by omega⟩ : Fin 8) = ⟨j / 96, by omega⟩ := Fin.ext (by dsimp only; omega)
    have e2 : (⟨col % 32, by omega⟩ : Fin 32) = q := Fin.ext (by dsimp only; omega)
    have e3 : (⟨d, by omega⟩ : Fin 96) = ⟨j % 96, by omega⟩ := Fin.ext hd
    rw [e1, e2, e3]
  have hx : ∀ r d : Fin 128, d.val = j % 96 → r.val = 32 * (j / 96) + q → outQuad0 (outMat E t) (ix2 r d) = outAt X t ⟨j / 96, by omega⟩ q ⟨j % 96, by omega⟩ := by
    intro r d h1 h2
    rw [outQuad0_apply]
    exact key _ _ h1 h2
  have hy : ∀ r d : Fin 128, d.val = j % 96 → 128 + r.val = 32 * (j / 96) + q → outQuad1 (outMat E t) (ix2 r d) = outAt X t ⟨j / 96, by omega⟩ q ⟨j % 96, by omega⟩ := by
    intro r d h1 h2
    rw [outQuad1_apply]
    exact key _ _ h1 h2
  unfold tile
  generalize outQuad0 (outMat E t) = x at hx ⊢
  generalize outQuad1 (outMat E t) = y at hy ⊢
  generalize outAt X t ⟨j / 96, by omega⟩ q ⟨j % 96, by omega⟩ = w at hx hy ⊢
  clear key ho
  pointwise
  split_ifs
  all_goals first
    | exact absurd rfl ‹¬ _›
    | exact hx _ _ (by dsimp only; omega) (by dsimp only; omega)
    | exact hy _ _ (by dsimp only; omega) (by dsimp only; omega)

end Cert.KernelIdeal.Model
-- ==== Proof.Out.lean ====
module

public import proofs.«01_k».proof.Proof.Match
public import proofs.«01_k».proof.Proof.Tile

/-! # What one run of the body leaves in its output block -/

@[expose] public section

set_option maxRecDepth 16384

noncomputable section

namespace Cert.KernelIdeal.Model

open Idealize.ShloMosaic Idealize.SL.Sem Cert.KernelIdeal.Gen

/-- The output block of one batch and key head. -/
def outBlk (X : Blocks) (y : S1x640x768.Idx) : EReal :=
  outAt X ⟨(y 1).val / 32, by have : (y 1).val < 640 := (y 1).isLt; omega⟩ ⟨(y 2).val / 96, by have : (y 2).val < 768 := (y 2).isLt; omega⟩
    ⟨(y 1).val % 32, Nat.mod_lt _ (by decide)⟩ ⟨(y 2).val % 96, Nat.mod_lt _ (by decide)⟩

/-- The tiles cover the output block. -/
theorem outL_cover (E : Env Ideal) (y : S1x640x768.Idx) : ∃ p ∈ outL E 20, y ∈ p.1.set := by
  have h0 : (y 0).val < 1 := (y 0).isLt
  have h1 : (y 1).val < 640 := (y 1).isLt
  have h2 : (y 2).val < 768 := (y 2).isLt
  exact exists_mem_pcs (s := S1x640x768) (e := .bf16) 20 (fun t => ![0, 32 * t, 0]) ![1, 32, 768] (fun t => tile E t) y ((y 1).val / 32) (by omega)
    (by intro a; fin_cases a <;> simp [S1x640x768] <;> omega)
    (by intro a; fin_cases a <;> simp <;> omega)

/-- The stored tiles are the model's output block. -/
theorem outL_canon {E : Env Ideal} {X : Blocks} (hE : E.Of X) : View.canon (outL E 20) = outBlk X := by
  funext y
  have h0 : (y 0).val < 1 := (y 0).isLt
  have h1 : (y 1).val < 640 := (y 1).isLt
  have h2 : (y 2).val < 768 := (y 2).isLt
  refine canon_pcs_nil (s := S1x640x768) (e := .bf16) 20 (fun t => ![0, 32 * t, 0]) ![1, 32, 768] (fun t => tile E t) (outBlk X) ?_ y ((y 1).val / 32) (by omega)
    (by intro a; fin_cases a <;> simp [S1x640x768] <;> omega)
    (by intro a; fin_cases a <;> simp <;> omega)
  intro t ht h x
  have hx1 : (x 1).val < 32 := (x 1).isLt
  have hx2 : (x 2).val < 768 := (x 2).isLt
  have ex : x = ix3 (x 0) (x 1) (x 2) := by funext a; fin_cases a <;> rfl
  have := tile_apply hE ⟨t, ht⟩ (x 0) (x 1) (x 2)
  refine (congrArg (tile E t) ex).trans (this.trans ?_)
  unfold outBlk
  have e1 : (((Rect.unit (s := S1x640x768) ![0, 32 * t, 0] ![1, 32, 768] h).emb x) 1).val = 32 * t + (x 1).val := by
    rw [Rect.emb_apply]; show 32 * t + 1 * (x 1).val = _; omega
  have e2 : (((Rect.unit (s := S1x640x768) ![0, 32 * t, 0] ![1, 32, 768] h).emb x) 2).val = (x 2).val := by
    rw [Rect.emb_apply]; show 0 + 1 * (x 2).val = _; omega
  congr 1
  · exact Fin.ext (by show t = _ / 32; rw [e1]; omega)
  · exact Fin.ext (by show (x 2).val / 96 = _ / 96; rw [e2])
  · exact Fin.ext (by show (x 1).val = _ % 32; rw [e1]; omega)
  · exact Fin.ext (by show (x 2).val % 96 = _ % 96; rw [e2])

variable (c : Dev nD) (i : grid0.Coords)
  (arg2 : Memref sig .tc .vmem S1x8x48x640 .i8) (harg2 : arg2.IsWhole)
  (arg3 : Memref sig .tc .vmem S1x20x32 .f32) (harg3 : arg3.IsWhole)
  (arg4 : Memref sig .tc .vmem S1x5x8x96 .bf16) (harg4 : arg4.IsWhole)
  (arg5 : Memref sig .tc .vmem S1x1x48x640 .i8) (harg5 : arg5.IsWhole)
  (arg6 : Memref sig .tc .smem S1x4x20 .f32) (harg6 : arg6.IsWhole)
  (arg7 : Memref sig .tc .vmem S1x1x96x640 .fp8e4m3) (harg7 : arg7.IsWhole)
  (arg8 : Memref sig .tc .vmem S1x20x4x96 .f32) (harg8 : arg8.IsWhole)
  (arg9 : Memref sig .tc .vmem S1x640x768 .bf16) (harg9 : arg9.IsWhole)
  (arg10 : Memref sig .tc .vmem S20x32x256 .i32) (harg10 : arg10.IsWhole)
  (arg11 : Memref sig .tc .vmem S640x128 .bf16) (harg11 : arg11.IsWhole)
  (arg12 : Memref sig .tc .vmem S96x640 .bf16) (harg12 : arg12.IsWhole)
  (arg13 : Memref sig .tc .vmem S20x8x128 .f32) (harg13 : arg13.IsWhole)
  (arg14 : Memref sig .tc .vmem S2x20x128 .f32) (harg14 : arg14.IsWhole)
  (arg15 : Memref sig .tc .vmem S640x256 .f32) (harg15 : arg15.IsWhole)
  (arg16 : Memref sig .tc .vmem S128x128 .f32) (harg16 : arg16.IsWhole)

/-- The run's environment reads the given input blocks. -/
theorem env_of (X : Blocks) (hg : (i 1).val = X.g.val) :
    (env i arg2 harg2 arg3 harg3 arg4 harg4 arg5 harg5 arg6 harg6 arg7 harg7 arg8 harg8 arg10 arg11 arg12 arg13 arg14 arg15 arg16 X.q X.qs X.qm X.k X.ks X.v X.vs).Of X where
  g := by
    have h := X.g.isLt
    show (BitVec.ofNat 32 (i 1).val).toNat = X.g.val
    rw [BitVec.toNat_ofNat, hg]
    omega
  gw := by show BitVec.ofNat 32 (i 1).val = _; rw [hg]
  q := fun B j => congrFun (harg2.read_unread X.q) (B.idx j)
  qs := fun B j => congrFun (harg3.read_unread X.qs) (B.idx j)
  qm := fun B j => congrFun (harg4.read_unread X.qm) (B.idx j)
  k := fun B j => congrFun (harg5.read_unread X.k) (B.idx j)
  ks := fun B j => congrFun (harg6.read_unread X.ks) (B.idx j)
  v := fun B j => congrFun (harg7.read_unread X.v) (B.idx j)
  vs := fun B j => congrFun (harg8.read_unread X.vs) (B.idx j)

/-- The body leaves the model's output block. -/
theorem body_out (X : Blocks) (hg : (i 1).val = X.g.val) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 X.q X.qs X.qm X.k X.ks X.v X.vs = outBlk X := by
  unfold out0_A_7
  rw [run_out]
  rw [View.read_writes_eq_canon _ _ _ (outL_cover _)]
  exact outL_canon (env_of i arg2 harg2 arg3 harg3 arg4 harg4 arg5 harg5 arg6 harg6 arg7 harg7 arg8 harg8 arg10 arg11 arg12 arg13 arg14 arg15 arg16 X hg)

end Cert.KernelIdeal.Model
-- ==== Proof.KernelOut.lean ====
module

public import proofs.«01_k».proof.Proof.Grid
public import proofs.«01_k».proof.Proof.Out

/-! # The kernel's result array -/

@[expose] public section

set_option maxRecDepth 16384

noncomputable section

namespace Cert.KernelIdeal.Model

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The result array. -/
def kout (y : S3x640x3072.Idx) : EReal :=
  outAt ((kargs m c).blocks (y 0) ⟨(y 2).val / 768, by have : (y 2).val < 3072 := (y 2).isLt; omega⟩)
    ⟨(y 1).val / 32, by have : (y 1).val < 640 := (y 1).isLt; omega⟩ ⟨(y 2).val / 96 % 8, Nat.mod_lt _ (by decide)⟩
    ⟨(y 1).val % 32, Nat.mod_lt _ (by decide)⟩ ⟨(y 2).val % 96, Nat.mod_lt _ (by decide)⟩

/-- What the grid step stores is its block of the model. -/
theorem outs_eq (t : Fin cfg0.N) : outsAt0 m c t = outBlk (pblocks m c t) := by
  unfold outsAt0
  rw [iblk0, iblk1, iblk2, iblk3, iblk4, iblk5, iblk6]
  exact body_out c (grid0.coords t) _ _ _ _ _ _ _ _ _ _ _ _ _ _ _ _ _ _ _ _ _ _ _ _ _ _ _ _ _ _ (pblocks m c t) rfl

/-- Where an element of the result's block lies in the result. -/
theorem emb7 (t : Fin cfg0.N) (y : ((cfg0.win 7).xblock (cfg0.grid.coords t)).Idx) (A : S3x640x3072.Idx → EReal) :
    A (((View.whole main_v4).slice (win0_7.rect t)).emb y) = A (ix3 (pb t) (y 1) ⟨768 * (pg t).val + (y 2).val, by
      have h1 : (y 2).val < 768 := (y 2).isLt
      omega⟩) := by
  blk_ext [idx1 t]

/-- A block of the model's result. -/
theorem kout_blk (t : Fin cfg0.N) (y : S1x640x768.Idx) :
    outBlk (pblocks m c t) y = kout m c (ix3 (pb t) (y 1) ⟨768 * (pg t).val + (y 2).val, by
      have h1 : (y 2).val < 768 := (y 2).isLt
      omega⟩) := by
  have h1 : (y 2).val < 768 := (y 2).isLt
  have hg := (pg t).isLt
  unfold outBlk kout pblocks
  congr 1
  · congr 1
    exact Fin.ext (by show (pg t).val = (768 * (pg t).val + (y 2).val) / 768; omega)
  · exact Fin.ext (by show (y 2).val / 96 = (768 * (pg t).val + (y 2).val) / 96 % 8; omega)
  · exact Fin.ext (by show (y 2).val % 96 = (768 * (pg t).val + (y 2).val) % 96; omega)

/-- After the last grid step the result array is the model's. -/
theorem kfinal : (dats m 0 c).arrAt 7 cfg0.N = kout m c := by
  refine (dats m 0 c).arrAt_eq_of_covers 7 _ (by decide +kernel) fun t hf y => ?_
  blk_simp
  rw [after0_7, outs_eq]
  exact (kout_blk m c t y).trans (emb7 t y (kout m c)).symm

end Cert.KernelIdeal.Model
-- ==== Proof.Bridge.lean ====
module

public import proofs.«01_k».proof.Proof.Tile

/-! # Extended real arithmetic: binary and natural exponentials, one normalization and the other -/

@[expose] public section

set_option maxRecDepth 16384

noncomputable section

namespace Cert.KernelIdeal.Model

open Idealize.ShloMosaic Idealize.SL.Sem Cert.KernelIdeal.Bytes

/-- A real factor that is not negative moves out of a sum of extended reals. -/
theorem sum_mul_coe {ι : Type} (s : Finset ι) (f : ι → EReal) (c : ℝ) (hc : 0 ≤ c) :
    (∑ i ∈ s, f i * ((c : ℝ) : EReal)) = (∑ i ∈ s, f i) * ((c : ℝ) : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- A real factor distributes over a real and an extended real. -/
theorem coe_mul_add' (a r : ℝ) (y : EReal) :
    ((a : ℝ) : EReal) * (((r : ℝ) : EReal) + y) = ((a * r : ℝ) : EReal) + ((a : ℝ) : EReal) * y := by
  induction y using EReal.rec with
  | bot =>
    rw [EReal.add_bot]
    rcases lt_trichotomy a 0 with h | h | h
    · rw [EReal.coe_mul_bot_of_neg h, EReal.coe_add_top]
    · subst h; simp
    · rw [EReal.coe_mul_bot_of_pos h, EReal.add_bot]
  | coe x => rw [← EReal.coe_add, ← EReal.coe_mul, ← EReal.coe_mul, ← EReal.coe_add, mul_add]
  | top =>
    rw [EReal.coe_add_top]
    rcases lt_trichotomy a 0 with h | h | h
    · rw [EReal.coe_mul_top_of_neg h, EReal.add_bot]
    · subst h; simp
    · rw [EReal.coe_mul_top_of_pos h, EReal.coe_add_top]

/-- One score: the kernel's powers of two cancel. -/
theorem score_scale (D A q c : ℝ) (Y : EReal) :
    ((D * (1 / 262144) : ℝ) : EReal) * (((A * c : ℝ) : EReal) * (((q : ℝ) : EReal) * ((262144 : ℝ) : EReal)))
        + Y * ((1 / 512 : ℝ) : EReal) * (((A * c : ℝ) : EReal) * ((512 : ℝ) : EReal))
      = ((A : ℝ) : EReal) * (((q : ℝ) : EReal) * ((D : ℝ) : EReal) + Y) * ((c : ℝ) : EReal) := by
  have h : Y * ((1 / 512 : ℝ) : EReal) * (((A * c : ℝ) : EReal) * ((512 : ℝ) : EReal)) = (((c * A) : ℝ) : EReal) * Y := by
    rw [mul_assoc, mul_comm Y, ← EReal.coe_mul, ← EReal.coe_mul]
    congr 2
    ring
  rw [h, ← EReal.coe_mul, ← EReal.coe_mul, ← EReal.coe_mul, ← EReal.coe_mul, mul_comm _ ((c : ℝ) : EReal),
    ← mul_assoc ((c : ℝ) : EReal), ← EReal.coe_mul, coe_mul_add']
  congr 2
  ring

/-- The power of two of numbers over log 2 is the exponential. -/
theorem exp2_scaled (x y : EReal) :
    Ideal.exp2 (x * (((Real.log 2)⁻¹ : ℝ) : EReal) - y * (((Real.log 2)⁻¹ : ℝ) : EReal)) = Ideal.exp (x - y) := by
  have hl : 0 < Real.log 2 := Real.log_pos (by norm_num)
  have hc : 0 < (Real.log 2)⁻¹ := inv_pos.2 hl
  induction x using EReal.rec with
  | bot => rw [EReal.bot_mul_coe_of_pos hc, EReal.bot_sub, EReal.bot_sub]; rfl
  | top =>
    rw [EReal.top_mul_coe_of_pos hc]
    induction y using EReal.rec with
    | bot => rw [EReal.bot_mul_coe_of_pos hc]; rfl
    | top => rw [EReal.top_mul_coe_of_pos hc, EReal.sub_top]; rfl
    | coe y => rw [← EReal.coe_mul, EReal.top_sub_coe, EReal.top_sub_coe]; rfl
  | coe x =>
    induction y using EReal.rec with
    | bot => rw [EReal.bot_mul_coe_of_pos hc, EReal.coe_sub_bot, ← EReal.coe_mul, EReal.coe_sub_bot]; rfl
    | top => rw [EReal.top_mul_coe_of_pos hc, EReal.sub_top, EReal.sub_top]; rfl
    | coe y =>
      rw [← EReal.coe_mul, ← EReal.coe_mul, ← EReal.coe_sub, ← EReal.coe_sub]
      show ((Real.rpow 2 _ : ℝ) : EReal) = ((Real.exp _ : ℝ) : EReal)
      congr 1
      show (2 : ℝ) ^ (_ : ℝ) = _
      rw [Real.rpow_def_of_pos (by norm_num)]
      congr 1
      field_simp

/-- A positive real factor moves out of a maximum. -/
theorem sup_scaled (w : Fin 640 → EReal) (c : ℝ) (hc : 0 < c) :
    (Finset.univ.sup fun k => w k * ((c : ℝ) : EReal)) = Finset.univ.sup w * ((c : ℝ) : EReal) := by
  have hm : Monotone fun x : EReal => x * ((c : ℝ) : EReal) := fun x y h =>
    mul_le_mul_of_nonneg_right h (by exact_mod_cast hc.le)
  exact (Finset.comp_sup_eq_sup_comp_of_is_total (fun x : EReal => x * ((c : ℝ) : EReal)) hm
    (EReal.bot_mul_coe_of_pos hc)).symm

/-- An exponential times the clamped reciprocal of the sum is the clamped quotient. -/
theorem normalize (w : Fin 640 → EReal) (k : Fin 640) :
    Ideal.exp (w k - Finset.univ.sup w)
        * min ((448 : ℝ) : EReal) (max 0 (Ideal.div ((256 : ℝ) : EReal) (∑ j, Ideal.exp (w j - Finset.univ.sup w))))
      = min ((448 : ℝ) : EReal) (max 0 (Ideal.div (Ideal.exp (w k - Finset.univ.sup w)) (∑ j, Ideal.exp (w j - Finset.univ.sup w)) * ((256 : ℝ) : EReal))) := by
  have hle : ∀ j, w j ≤ Finset.univ.sup w := fun j => Finset.le_sup (f := w) (Finset.mem_univ j)
  obtain ⟨k0, -, h0⟩ := Finset.exists_mem_eq_sup (Finset.univ : Finset (Fin 640)) ⟨0, Finset.mem_univ _⟩ w
  generalize Finset.univ.sup w = s at *
  have hz : (∀ j, Ideal.exp (w j - s) = 0) → Ideal.exp (w k - s)
        * min ((448 : ℝ) : EReal) (max 0 (Ideal.div ((256 : ℝ) : EReal) (∑ j, Ideal.exp (w j - s))))
      = min ((448 : ℝ) : EReal) (max 0 (Ideal.div (Ideal.exp (w k - s)) (∑ j, Ideal.exp (w j - s)) * ((256 : ℝ) : EReal))) := by
    intro hz
    simp only [hz, Finset.sum_const_zero, zero_mul]
    have : Ideal.div 0 0 = ⊥ := by unfold Ideal.div; rw [if_pos rfl, if_neg (lt_irrefl _)]
    rw [this, EReal.bot_mul_coe_of_pos (by norm_num), max_eq_left bot_le, min_eq_right]
    exact_mod_cast (by norm_num : (0 : ℝ) ≤ 448)
  induction s using EReal.rec with
  | bot =>
    refine hz fun j => ?_
    rw [le_bot_iff.1 (hle j)]; rfl
  | top =>
    refine hz fun j => ?_
    rw [EReal.sub_top]; rfl
  | coe s =>
    have hf : ∀ j, ∃ f : ℝ, Ideal.exp (w j - ((s : ℝ) : EReal)) = ((f : ℝ) : EReal) ∧ 0 ≤ f ∧ f ≤ 1 := by
      intro j
      have hj := hle j
      generalize w j = x at hj
      induction x using EReal.rec with
      | bot => exact ⟨0, by rw [EReal.bot_sub]; rfl, le_rfl, zero_le_one⟩
      | top => exact absurd hj (by simp)
      | coe x =>
        refine ⟨Real.exp (x - s), by rw [← EReal.coe_sub]; rfl, (Real.exp_pos _).le, Real.exp_le_one_iff.2 ?_⟩
        have : x ≤ s := by exact_mod_cast hj
        linarith
    choose f hf h0' h1' using hf
    have hk0 : f k0 = 1 := by
      have := hf k0
      rw [← h0, ← EReal.coe_sub, sub_self] at this
      have h2 : ((Real.exp 0 : ℝ) : EReal) = ((f k0 : ℝ) : EReal) := this
      rw [Real.exp_zero] at h2
      exact_mod_cast h2.symm
    simp only [hf, coe_sum]
    have hS : 1 ≤ ∑ j, f j := hk0 ▸ Finset.single_le_sum (fun j _ => h0' j) (Finset.mem_univ k0)
    generalize (∑ j, f j) = S at *
    have hS0 : S ≠ 0 := by linarith
    have hd : ∀ a : ℝ, Ideal.div ((a : ℝ) : EReal) ((S : ℝ) : EReal) = ((a * S⁻¹ : ℝ) : EReal) := by
      intro a
      unfold Ideal.div
      rw [if_neg (by exact_mod_cast hS0), ← EReal.coe_inv, ← EReal.coe_mul]
    rw [hd, hd, ← EReal.coe_mul]
    have hi : 0 ≤ S⁻¹ ∧ S⁻¹ ≤ 1 := ⟨inv_nonneg.2 (by linarith), inv_le_one_of_one_le₀ hS⟩
    have hm : ∀ a : ℝ, 0 ≤ a → a ≤ 448 → min ((448 : ℝ) : EReal) (max 0 ((a : ℝ) : EReal)) = ((a : ℝ) : EReal) := by
      intro a h0 h1
      rw [max_eq_right (by exact_mod_cast h0), min_eq_right (by exact_mod_cast h1)]
    have hk := h0' k
    have hk' := h1' k
    have hp : f k * S⁻¹ ≤ 1 := mul_le_one₀ hk' hi.1 hi.2
    rw [hm _ (by linarith) (by linarith), hm _ (mul_nonneg (mul_nonneg hk hi.1) (by norm_num)) (by linarith), ← EReal.coe_mul]
    congr 1
    ring

/-- The scaled scores' probabilities, by either exponential. -/
theorem prob_scaled (w s : Fin 640 → EReal) (hs : ∀ k, s k = w k * (((Real.log 2)⁻¹ : ℝ) : EReal)) (k : Fin 640) :
    Ideal.exp2 (s k - Finset.univ.sup s)
        * min ((448 : ℝ) : EReal) (max 0 (Ideal.div ((256 : ℝ) : EReal) (∑ j, Ideal.exp2 (s j - Finset.univ.sup s))))
      = min ((448 : ℝ) : EReal) (max 0 (Ideal.div (Ideal.exp (w k - Finset.univ.sup w)) (∑ j, Ideal.exp (w j - Finset.univ.sup w)) * ((256 : ℝ) : EReal))) := by
  have hc : 0 < (Real.log 2)⁻¹ := inv_pos.2 (Real.log_pos (by norm_num))
  obtain rfl : s = fun k => w k * (((Real.log 2)⁻¹ : ℝ) : EReal) := funext hs
  rw [sup_scaled w _ hc]
  simp only [exp2_scaled]
  exact normalize w k

/-- The rows are the byte rows of the low and of the high nibbles. -/
theorem sum_features {M : Type} [AddCommMonoid M] (f : Bool → Fin 48 → M) :
    (∑ d : Fin 96, f (hiRow d) ⟨byteRow d, byteRow_lt d.2⟩) = (∑ b, f false b) + ∑ b, f true b := by
  have hb : Function.Bijective fun d : Fin 96 => (hiRow d, (⟨byteRow d, byteRow_lt d.2⟩ : Fin 48)) := by
    refine (Fintype.bijective_iff_injective_and_card _).2 ⟨?_, by simp⟩
    intro a b h
    have ha := a.2
    have hb := b.2
    obtain ⟨h1, h2⟩ := Prod.mk.inj h
    have h2 := Fin.mk.inj h2
    unfold hiRow at h1
    have h1 := decide_eq_decide.1 h1
    unfold byteRow at h2
    apply Fin.ext
    split_ifs at h2 <;> omega
  rw [hb.sum_comp (fun p : Bool × Fin 48 => f p.1 p.2), Fintype.sum_prod_type, Fintype.sum_bool, add_comm]

/-- The reference's factor of the scores is one over the root of 96. -/
theorem rsqrt_96 : Ideal.rsqrt (Ideal.ofBits .f32 0x42C00000#32) = (((Real.sqrt 96)⁻¹ : ℝ) : EReal) := by
  have : Ideal.ofBits .f32 0x42C00000#32 = ((96 : ℝ) : EReal) := by
    simp [Ideal.ofBits, Ideal.ieee, -EReal.coe_mul]; norm_num
  rw [this]
  show (if (96 : ℝ) < 0 then ⊥ else if (96 : ℝ) = 0 then ⊤ else (((Real.sqrt 96)⁻¹ : ℝ) : EReal)) = _
  rw [if_neg (by norm_num), if_neg (by norm_num)]

/-- The kernel's constant is one over the root of 96, over log 2. -/
theorem ktC_eq : (ktC : Ideal .f32) = (((Real.sqrt 96)⁻¹ * (Real.log 2)⁻¹ : ℝ) : EReal) :=
  IdealRules.named_const.ideal_named_scalar _ _ _ _ rfl

end Cert.KernelIdeal.Model
-- ==== Proof.RefDefs.lean ====
module

public import proofs.«01_k».proof.Proof.Gen.ReferenceIdeal.Value
public import Idealize.ShloMosaic.Lib.StableHlo.ReadAt
public import Idealize.ShloMosaic.Lib.Pointwise

/-! # The reference's arguments and host buffers -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-! The reference's arguments. -/

/-- The packed query codes. -/
def a0 : Vec Ideal S3x640x32x48 .i8 := m ((c.tc : Thread nD τ).loc main_arg0)

/-- The query scales. -/
def a1 : Vec Ideal S3x20x32 .f32 := m ((c.tc : Thread nD τ).loc main_arg1)

/-- The query means. -/
def a2 : Vec Ideal S3x5x32x96 .bf16 := m ((c.tc : Thread nD τ).loc main_arg2)

/-- The packed key codes. -/
def a3 : Vec Ideal S3x640x4x48 .i8 := m ((c.tc : Thread nD τ).loc main_arg3)

/-- The key scales. -/
def a4 : Vec Ideal S3x20x4 .f32 := m ((c.tc : Thread nD τ).loc main_arg4)

/-- The values. -/
def a5 : Vec Ideal S3x640x4x96 .fp8e4m3 := m ((c.tc : Thread nD τ).loc main_arg5)

/-- The values' scales. -/
def a6 : Vec Ideal S3x20x4x96 .f32 := m ((c.tc : Thread nD τ).loc main_arg6)

/-! The reference's host buffers. -/

/-- The even channels of the queries. -/
def w21 : FVec Ideal S3x4x8x640x48 .bf16 := V m c main_v21

/-- The odd channels of the queries. -/
def w23 : FVec Ideal S3x4x8x640x48 .bf16 := V m c main_v23

/-- The even channels of the keys. -/
def w24 : FVec Ideal S3x4x640x48 .bf16 := V m c main_v24

/-- The odd channels of the keys. -/
def w25 : FVec Ideal S3x4x640x48 .bf16 := V m c main_v25

/-- The key scales times the scores' factor, by key. -/
def w32 : FVec Ideal S3x4x640 .f32 := V m c main_v32

/-- The query scales, by query. -/
def w36 : FVec Ideal S3x4x8x640 .f32 := V m c main_v36

/-- The even channels of the query means. -/
def w38 : FVec Ideal S3x5x4x8x48 .bf16 := V m c main_v38

/-- The odd channels of the query means. -/
def w41 : FVec Ideal S3x5x4x8x48 .bf16 := V m c main_v41

/-- The keys times the even channels of the query means. -/
def w39 : FVec Ideal S3x4x640x5x8 .f32 := V m c main_v39

/-- The keys times the odd channels of the query means. -/
def w42 : FVec Ideal S3x4x640x5x8 .f32 := V m c main_v42

/-- Their sum, by query. -/
def w47 : FVec Ideal S3x4x8x640x640 .f32 := V m c main_v47

/-- The product of the even channels. -/
def w48 : FVec Ideal S3x4x8x640x640 .f32 := V m c main_v48

/-- The product of the odd channels. -/
def w49 : FVec Ideal S3x4x8x640x640 .f32 := V m c main_v49

/-- The scores. -/
def w57 : FVec Ideal S3x4x8x640x640 .f32 := V m c main_v57

/-- The masked scores. -/
def w65 : FVec Ideal S3x4x8x640x640 .f32 := V m c main_v65

/-- The row maxima. -/
def w66 : FVec Ideal S3x4x8x640 .f32 := V m c main_v66

/-- The row maxima, bounded below by minus infinity. -/
def w68 : FVec Ideal S3x4x8x640 .f32 := V m c main_v68

/-- The row maxima, by key. -/
def w70 : FVec Ideal S3x4x8x640x640 .f32 := V m c main_v70

/-- The exponentials. -/
def w72 : FVec Ideal S3x4x8x640x640 .f32 := V m c main_v72

/-- Their sums. -/
def w73 : FVec Ideal S3x4x8x640 .f32 := V m c main_v73

/-- The sums, by key. -/
def w75 : FVec Ideal S3x4x8x640x640 .f32 := V m c main_v75

/-- The softmax. -/
def w76 : FVec Ideal S3x4x8x640x640 .f32 := V m c main_v76

/-- The softmax, as the last step takes it. -/
def w84 : FVec Ideal S12x5120x640 .f32 := V m c main_v84

/-- The values, as the last step takes them. -/
def w81 : FVec Ideal S12x640x96 .fp8e4m3 := V m c main_v81

/-- The values' scales, as the last step takes them. -/
def w83 : FVec Ideal S12x640x96 .f32 := V m c main_v83

end Cert.ReferenceIdeal.Read
-- ==== Proof.RefDots.lean ====
module

public import proofs.«01_k».proof.Proof.RefDefs

/-! # The reference's four products -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The host buffer 48, from the buffers before it. -/
theorem w48_eq : w48 m c = Host.dotGeneral dot_S3x4x8x640x48_S3x4x640x48_S3x4x8x640x640_4_3_23_2_01_01 none (w21 m c) (w24 m c) := by
  unfold w48 w21 w24 V
  after_reads_simp

/-- The product of the even channels of queries and keys. -/
theorem w48_apply (b : Fin 3) (g : Fin 4) (r : Fin 8) (q k : Fin 640) : w48 m c (ix5 b g r q k)
    = ∑ d : Fin 48, w21 m c (ix5 b g r q d) * w24 m c (ix4 b g k d) := by
  rw [w48_eq]
  generalize w21 m c = A
  generalize w24 m c = B
  pointwise []

/-- The host buffer 49, from the buffers before it. -/
theorem w49_eq : w49 m c = Host.dotGeneral dot_S3x4x8x640x48_S3x4x640x48_S3x4x8x640x640_4_3_23_2_01_01 none (w23 m c) (w25 m c) := by
  unfold w49 w23 w25 V
  after_reads_simp

/-- The product of the odd channels of queries and keys. -/
theorem w49_apply (b : Fin 3) (g : Fin 4) (r : Fin 8) (q k : Fin 640) : w49 m c (ix5 b g r q k)
    = ∑ d : Fin 48, w23 m c (ix5 b g r q d) * w25 m c (ix4 b g k d) := by
  rw [w49_eq]
  generalize w23 m c = A
  generalize w25 m c = B
  pointwise []

/-- The host buffer 39, from the buffers before it. -/
theorem w39_eq : w39 m c = Host.dotGeneral dot_S3x4x640x48_S3x5x4x8x48_S3x4x640x5x8_3_4_2_13_01_02 none (w24 m c) (w38 m c) := by
  unfold w39 w24 w38 V
  after_reads_simp

/-- The product of the keys and the even channels of the query means. -/
theorem w39_apply (b : Fin 3) (g : Fin 4) (k : Fin 640) (i : Fin 5) (r : Fin 8) : w39 m c (ix5 b g k i r)
    = ∑ d : Fin 48, w24 m c (ix4 b g k d) * w38 m c (ix5 b i g r d) := by
  rw [w39_eq]
  generalize w24 m c = A
  generalize w38 m c = B
  pointwise []

/-- The host buffer 42, from the buffers before it. -/
theorem w42_eq : w42 m c = Host.dotGeneral dot_S3x4x640x48_S3x5x4x8x48_S3x4x640x5x8_3_4_2_13_01_02 none (w25 m c) (w41 m c) := by
  unfold w42 w25 w41 V
  after_reads_simp

/-- The product of the keys and the odd channels of the query means. -/
theorem w42_apply (b : Fin 3) (g : Fin 4) (k : Fin 640) (i : Fin 5) (r : Fin 8) : w42 m c (ix5 b g k i r)
    = ∑ d : Fin 48, w25 m c (ix4 b g k d) * w41 m c (ix5 b i g r d) := by
  rw [w42_eq]
  generalize w25 m c = A
  generalize w41 m c = B
  pointwise []

end Cert.ReferenceIdeal.Read
-- ==== Proof.RefLeaf.lean ====
module

public import proofs.«01_k».proof.Proof.RefDefs
public import proofs.«01_k».proof.Proof.Bytes

/-! # The reference's operands, from the arguments -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

open Cert.KernelIdeal.Bytes

/-- The low nibble as a number. -/
theorem sitofp_low (x : BitVec 8) : FloatOps.sitofp (F := Ideal) .bf16 (IntOp.shrsi .host (IntOp.shli .host (x.signExtend 32) 28#32) 28#32) = ((lowI x : ℝ) : EReal) := rfl

/-- The high nibble as a number. -/
theorem sitofp_high (x : BitVec 8) : FloatOps.sitofp (F := Ideal) .bf16 (IntOp.shrsi .host (x.signExtend 32) 4#32) = ((highI x : ℝ) : EReal) := rfl

/-- The even channels of the keys. -/
theorem w24_apply (b : Fin 3) (g : Fin 4) (k : Fin 640) (d : Fin 48) :
    w24 m c (ix4 b g k d) = ((lowI (a3 m c (ix4 b k g d) : BitVec 8) : ℝ) : EReal) := by
  unfold w24 a3 V
  after_reads_at
  rfl

/-- The odd channels of the keys. -/
theorem w25_apply (b : Fin 3) (g : Fin 4) (k : Fin 640) (d : Fin 48) :
    w25 m c (ix4 b g k d) = ((highI (a3 m c (ix4 b k g d) : BitVec 8) : ℝ) : EReal) := by
  unfold w25 a3 V
  after_reads_at
  rfl

/-- A head of a group is one of the 32 heads. -/
theorem head_lt (g : Fin 4) (r : Fin 8) : 8 * g.val + r.val < 32 := by omega

/-- The even channels of the queries. -/
theorem w21_apply (b : Fin 3) (g : Fin 4) (r : Fin 8) (q : Fin 640) (d : Fin 48) :
    w21 m c (ix5 b g r q d) = ((lowI (a0 m c (ix4 b q ⟨8 * g.val + r.val, head_lt g r⟩ d) : BitVec 8) : ℝ) : EReal) := by
  unfold w21 a0 V
  after_reads_at
  simp only [Nat.mul_comm g.val 8]
  exact sitofp_low _

/-- The odd channels of the queries. -/
theorem w23_apply (b : Fin 3) (g : Fin 4) (r : Fin 8) (q : Fin 640) (d : Fin 48) :
    w23 m c (ix5 b g r q d) = ((highI (a0 m c (ix4 b q ⟨8 * g.val + r.val, head_lt g r⟩ d) : BitVec 8) : ℝ) : EReal) := by
  unfold w23 a0 V
  after_reads_at
  simp only [Nat.mul_comm g.val 8]
  exact sitofp_high _

/-- The key scales times the scores' factor. -/
theorem w32_apply (b : Fin 3) (g : Fin 4) (k : Fin 640) :
    w32 m c (ix3 b g k) = a4 m c (ix3 b ⟨k / 32, by omega⟩ g) * Ideal.rsqrt (Ideal.ofBits .f32 0x42C00000#32) := by
  unfold w32 a4 V
  after_reads_at

/-- The query scales. -/
theorem w36_apply (b : Fin 3) (g : Fin 4) (r : Fin 8) (q : Fin 640) :
    w36 m c (ix4 b g r q) = a1 m c (ix3 b ⟨q / 32, by omega⟩ ⟨8 * g.val + r.val, head_lt g r⟩) := by
  unfold w36 a1 V
  after_reads_at
  simp only [Nat.mul_comm g.val 8]

/-- The even channels of the query means. -/
theorem w38_apply (b : Fin 3) (i : Fin 5) (g : Fin 4) (r : Fin 8) (d : Fin 48) :
    w38 m c (ix5 b i g r d) = a2 m c (ix4 b i ⟨8 * g.val + r.val, head_lt g r⟩ ⟨2 * d, by omega⟩) := by
  unfold w38 a2 V
  after_reads_at
  simp only [Nat.mul_comm g.val 8]

/-- The odd channels of the query means. -/
theorem w41_apply (b : Fin 3) (i : Fin 5) (g : Fin 4) (r : Fin 8) (d : Fin 48) :
    w41 m c (ix5 b i g r d) = a2 m c (ix4 b i ⟨8 * g.val + r.val, head_lt g r⟩ ⟨2 * d + 1, by omega⟩) := by
  unfold w41 a2 V
  after_reads_at
  simp only [Nat.mul_comm g.val 8, Nat.add_comm 1]

/-- The values. -/
theorem w81_apply (n : Fin 12) (k : Fin 640) (d : Fin 96) :
    w81 m c (ix3 n k d) = a5 m c (ix4 ⟨n / 4, by omega⟩ k ⟨n % 4, by omega⟩ d) := by
  unfold w81 a5 V
  after_reads_at

/-- The values' scales. -/
theorem w83_apply (n : Fin 12) (k : Fin 640) (d : Fin 96) :
    w83 m c (ix3 n k d) = a6 m c (ix4 ⟨n / 4, by omega⟩ ⟨k / 32, by omega⟩ ⟨n % 4, by omega⟩ d) := by
  unfold w83 a6 V
  after_reads_at

end Cert.ReferenceIdeal.Read
-- ==== Proof.RefScore.lean ====
module

public import proofs.«01_k».proof.Proof.RefDefs

/-! # The reference's scores -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The host buffer 47, from the buffers before it. -/
theorem w47_eq : w47 m c = shapeCast S3x4x8x640x640 (broadcastInDim S3x4x8x5x128x640 ![0, 1, 2, 3, 4, 5] bcast_S3x4x8x5x1x640_S3x4x8x5x128x640_0_1_2_3_4_5
    (broadcastInDim S3x4x8x5x1x640 ![0, 1, 2, 3, 5] bcast_S3x4x8x5x640_S3x4x8x5x1x640_0_1_2_3_5
      (addf (transpose S3x4x8x5x640 [0, 1, 4, 3, 2] (w39 m c) transposes_S3x4x640x5x8_S3x4x8x5x640_0_1_4_3_2)
        (transpose S3x4x8x5x640 [0, 1, 4, 3, 2] (w42 m c) transposes_S3x4x640x5x8_S3x4x8x5x640_0_1_4_3_2))))
    shapeCasts_S3x4x8x5x128x640_S3x4x8x640x640 := by
  unfold w47 w39 w42 V
  after_reads_simp
  rfl

/-- The product with the query means, repeated for the queries of a block. -/
theorem w47_apply (b : Fin 3) (g : Fin 4) (r : Fin 8) (q k : Fin 640) : w47 m c (ix5 b g r q k)
    = w39 m c (ix5 b g k ⟨q / 128, by omega⟩ r) + w42 m c (ix5 b g k ⟨q / 128, by omega⟩ r) := by
  rw [w47_eq]
  generalize w39 m c = A
  generalize w42 m c = B
  pointwise []

/-- The host buffer 57, from the buffers before it. -/
theorem w57_eq : w57 m c = mulf
    (broadcastInDim S3x4x8x640x640 ![0, 1, 2, 3, 4] bcast_S3x4x1x1x640_S3x4x8x640x640_0_1_2_3_4 (broadcastInDim S3x4x1x1x640 ![0, 1, 4] bcast_S3x4x640_S3x4x1x1x640_0_1_4 (w32 m c)))
    (addf (mulf (broadcastInDim S3x4x8x640x640 ![0, 1, 2, 3, 4] bcast_S3x4x8x640x1_S3x4x8x640x640_0_1_2_3_4 (broadcastInDim S3x4x8x640x1 ![0, 1, 2, 3] bcast_S3x4x8x640_S3x4x8x640x1_0_1_2_3 (w36 m c)))
      (addf (w48 m c) (w49 m c))) (w47 m c)) := by
  unfold w57 w32 w36 w48 w49 w47 V
  after_reads_simp

/-- A score. -/
theorem w57_apply (b : Fin 3) (g : Fin 4) (r : Fin 8) (q k : Fin 640) : w57 m c (ix5 b g r q k)
    = w32 m c (ix3 b g k) * (w36 m c (ix4 b g r q) * (w48 m c (ix5 b g r q k) + w49 m c (ix5 b g r q k)) + w47 m c (ix5 b g r q k)) := by
  rw [w57_eq]
  generalize w32 m c = A
  generalize w36 m c = B
  generalize w48 m c = C
  generalize w49 m c = D
  generalize w47 m c = E
  pointwise []

/-- A selection by a comparison. -/
theorem select_le (k q : Fin 640) (x y : EReal) :
    Scalar.select (IntOp.cmpi .sle (BitVec.ofNat 32 k.val) (BitVec.ofNat 32 q.val)) x y = if k.val ≤ q.val then x else y := by
  have h : (BitVec.ofNat 32 k.val).sle (BitVec.ofNat 32 q.val) = decide (k.val ≤ q.val) := by
    rw [BitVec.sle, BitVec.toInt_eq_toNat_of_lt, BitVec.toInt_eq_toNat_of_lt]
    · apply decide_eq_decide.2
      simp only [BitVec.toNat_ofNat]
      omega
    · simp only [BitVec.toNat_ofNat]; omega
    · simp only [BitVec.toNat_ofNat]; omega
  rw [Scalar.select, IntOp.cmpi, h]
  by_cases hk : k.val ≤ q.val <;> simp [hk]

/-- The causal mask: a key not after its query. -/
def mask : IVec S3x4x8x640x640 1 := broadcastInDim S3x4x8x640x640 ![3, 4] bcast_S640x640_S3x4x8x640x640_3_4
  (cmpi .sle (broadcastInDim S640x640 ![0, 1] bcast_S1x640_S640x640_0_1 (broadcastInDim S1x640 ![1] bcast_S640_S1x640_1 (iotaInDim S640 32 0)))
    (broadcastInDim S640x640 ![0, 1] bcast_S640x1_S640x640_0_1 (broadcastInDim S640x1 ![0] bcast_S640_S640x1_0 (iotaInDim S640 32 0))))

/-- The host buffer 65, from the buffers before it. -/
theorem w65_eq : w65 m c = select mask (w57 m c) (broadcastInDim S3x4x8x640x640 ![] bcast_S_S3x4x8x640x640 (constant S_ .f32 0xFF800000#32)) := by
  unfold w65 w57 mask V
  after_reads_simp
  rfl

/-- A masked score. -/
theorem w65_apply (b : Fin 3) (g : Fin 4) (r : Fin 8) (q k : Fin 640) : w65 m c (ix5 b g r q k)
    = if k.val ≤ q.val then w57 m c (ix5 b g r q k) else Ideal.ofBits .f32 0xFF800000#32 := by
  rw [w65_eq]
  generalize w57 m c = A
  pointwise [mask]
  exact select_le _ _ _ _

end Cert.ReferenceIdeal.Read
-- ==== Proof.RefSoft.lean ====
module

public import proofs.«01_k».proof.Proof.RefDefs
public import proofs.«01_k».proof.Proof.Keys

/-! # The reference's softmax -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The host buffer 66, from the buffers before it. -/
theorem w66_eq : w66 m c = Host.reduce FloatOps.maximumf (w65 m c) (constant S_ .f32 0xFF800000#32 : FVec Ideal S_ .f32) reducesTo_S3x4x8x640x640_S3x4x8x640_d4 h_S_ := by
  unfold w66 w65 V
  after_reads_simp

/-- The maximum of a row of scores. -/
theorem w66_apply (b : Fin 3) (g : Fin 4) (r : Fin 8) (q : Fin 640) : w66 m c (ix4 b g r q)
    = Finset.univ.sup fun k : Fin 640 => w65 m c (ix5 b g r q k) := by
  rw [w66_eq]
  generalize w65 m c = A
  pointwise []
  rw [Cert.KernelIdeal.Model.ofBits_bot]
  rfl

/-- The host buffer 68, from the buffers before it. -/
theorem w68_eq : w68 m c = maximumf (broadcastInDim S3x4x8x640 ![] bcast_S_S3x4x8x640 (constant S_ .f32 0xFF800000#32)) (w66 m c) := by
  unfold w68 w66 V
  after_reads_simp

/-- The host buffer 70, from the buffers before it. -/
theorem w70_eq : w70 m c = broadcastInDim S3x4x8x640x640 ![0, 1, 2, 3, 4] bcast_S3x4x8x640x1_S3x4x8x640x640_0_1_2_3_4 (broadcastInDim S3x4x8x640x1 ![0, 1, 2, 3] bcast_S3x4x8x640_S3x4x8x640x1_0_1_2_3 (w68 m c)) := by
  unfold w70 w68 V
  after_reads_simp

/-- The row's maximum, for each key. -/
theorem w70_apply (b : Fin 3) (g : Fin 4) (r : Fin 8) (q k : Fin 640) : w70 m c (ix5 b g r q k) = w68 m c (ix4 b g r q) := by
  rw [w70_eq]
  generalize w68 m c = A
  pointwise []

/-- The host buffer 72, from the buffers before it. -/
theorem w72_eq : w72 m c = Host.exp (subf (w65 m c) (w70 m c)) := by
  unfold w72 w65 w70 V
  after_reads_simp

/-- The exponential of a score less the row's maximum. -/
theorem w72_apply (b : Fin 3) (g : Fin 4) (r : Fin 8) (q k : Fin 640) : w72 m c (ix5 b g r q k)
    = Ideal.exp (w65 m c (ix5 b g r q k) - w70 m c (ix5 b g r q k)) := by
  rw [w72_eq]
  generalize w65 m c = A
  generalize w70 m c = B
  pointwise []

/-- The host buffer 73, from the buffers before it. -/
theorem w73_eq : w73 m c = Host.reduceAdd (w72 m c) (constant S_ .f32 0x00000000#32 : FVec Ideal S_ .f32) reducesTo_S3x4x8x640x640_S3x4x8x640_d4 h_S_ := by
  unfold w73 w72 V
  after_reads_simp

/-- The sum of a row's exponentials. -/
theorem w73_apply (b : Fin 3) (g : Fin 4) (r : Fin 8) (q : Fin 640) : w73 m c (ix4 b g r q)
    = ∑ k : Fin 640, w72 m c (ix5 b g r q k) := by
  rw [w73_eq]
  generalize w72 m c = A
  pointwise []

/-- The host buffer 75, from the buffers before it. -/
theorem w75_eq : w75 m c = broadcastInDim S3x4x8x640x640 ![0, 1, 2, 3, 4] bcast_S3x4x8x640x1_S3x4x8x640x640_0_1_2_3_4 (broadcastInDim S3x4x8x640x1 ![0, 1, 2, 3] bcast_S3x4x8x640_S3x4x8x640x1_0_1_2_3 (w73 m c)) := by
  unfold w75 w73 V
  after_reads_simp

/-- The host buffer 76, from the buffers before it. -/
theorem w76_eq : w76 m c = Host.divf (w72 m c) (w75 m c) := by
  unfold w76 w72 w75 V
  after_reads_simp

/-- The softmax. -/
theorem w76_apply (b : Fin 3) (g : Fin 4) (r : Fin 8) (q k : Fin 640) : w76 m c (ix5 b g r q k)
    = Ideal.div (w72 m c (ix5 b g r q k)) (w73 m c (ix4 b g r q)) := by
  rw [w76_eq, w75_eq]
  generalize w72 m c = A
  generalize w73 m c = B
  pointwise []

end Cert.ReferenceIdeal.Read
-- ==== Proof.RefMax.lean ====
module

public import proofs.«01_k».proof.Proof.RefDefs
public import proofs.«01_k».proof.Proof.RefSoft

/-! # The reference's row maximum -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The maximum with the least number. -/
theorem max_bot_left (x : EReal) : max (Ideal.ofBits .f32 0xFF800000#32) x = x := by
  rw [Cert.KernelIdeal.Model.ofBits_bot]
  exact max_eq_right bot_le

/-- The maximum with a constant that is the least number. -/
theorem max_const (A : FVec Ideal S3x4x8x640 .f32) (j : S3x4x8x640.Idx) (v : BitVec 32) :
    maximumf (broadcastInDim S3x4x8x640 ![] bcast_S_S3x4x8x640 (constant S_ .f32 v)) A j = max (Ideal.ofBits .f32 v) (A j) := rfl

/-- A row's maximum. -/
theorem w68_apply (b : Fin 3) (g : Fin 4) (r : Fin 8) (q : Fin 640) : w68 m c (ix4 b g r q) = w66 m c (ix4 b g r q) := by
  rw [w68_eq, max_const, max_bot_left]

end Cert.ReferenceIdeal.Read
-- ==== Proof.RefProb.lean ====
module

public import proofs.«01_k».proof.Proof.RefDefs
public import proofs.«01_k».proof.Proof.RefSoft

/-! # The reference's probabilities, a row per query -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

set_option maxHeartbeats 2000000 in
/-- The host buffer 84, from the buffers before it. -/
theorem w84_eq : w84 m c = shapeCast S12x5120x640 (w76 m c) shapeCasts_S3x4x8x640x640_S12x5120x640 := by
  unfold w84 w76 V
  after_reads_simp
  refine congrArg (fun A => shapeCast S12x5120x640 A shapeCasts_S3x4x8x640x640_S12x5120x640) ?_
  with_reducible rfl

/-- A probability, in the last step's order of the rows. -/
theorem w84_apply (n : Fin 12) (s : Fin 5120) (k : Fin 640) : w84 m c (ix3 n s k)
    = w76 m c (ix5 ⟨n / 4, by omega⟩ ⟨n % 4, by omega⟩ ⟨s / 640, by omega⟩ ⟨s % 640, by omega⟩ k) := by
  rw [w84_eq]
  generalize w76 m c = A
  pointwise []

end Cert.ReferenceIdeal.Read
-- ==== Proof.RefPay.lean ====
module

public import proofs.«01_k».proof.Proof.RefDefs
public import proofs.«01_k».proof.Proof.Keys

/-! # The reference's last step -/

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The last step's reordering of heads and queries. -/
theorem lay_apply (M : FVec Ideal S12x5120x96 .f32) (b : Fin 3) (S : Fin 640) (j : Fin 3072) :
    truncf .bf16 (shapeCast S3x640x3072 (transpose S3x640x4x8x96 [0, 3, 1, 2, 4] (shapeCast S3x4x8x640x96 M shapeCasts_S12x5120x96_S3x4x8x640x96) transposes_S3x4x8x640x96_p0_3_1_2_4_S3x640x4x8x96) shapeCasts_S3x640x4x8x96_S3x640x3072) bitsLt_bf16_f32 (ix3 b S j)
      = M (ix3 ⟨b * 4 + j / 768, by omega⟩ ⟨j / 96 % 8 * 640 + S, by omega⟩ ⟨j % 96, by omega⟩) := by
  pointwise []

/-- The last step's product. -/
theorem product_apply (P : FVec Ideal S12x5120x640 .bf16) (W : FVec Ideal S12x640x96 .bf16) (n : Fin 12) (s : Fin 5120) (d : Fin 96) :
    matmul dot_S12x5120x640_S12x640x96_S12x5120x96_2_1_1_2_0_0 none P W (constant S12x5120x96 .f32 0x00000000#32) (ix3 n s d)
      = ∑ k : Fin 640, P (ix3 n s k) * W (ix3 n k d) := by
  pointwise []

/-- The clipped probability. -/
theorem clamp_apply (A : FVec Ideal S12x5120x640 .f32) (u v w : BitVec 32) (j : S12x5120x640.Idx) :
    extf .bf16 (truncf .fp8e4m3 (minimumf (broadcast S12x5120x640 (Scalar.ofBits .f32 u)) (maximumf (broadcast S12x5120x640 (Scalar.ofBits .f32 v)) (mulf A (broadcast S12x5120x640 (Scalar.ofBits .f32 w))))) bitsLt_fp8e4m3_f32) bitsLt_fp8e4m3_bf16 j
      = min (Ideal.ofBits .f32 u) (max (Ideal.ofBits .f32 v) (A j * Ideal.ofBits .f32 w)) := rfl

/-- An element of what the last step stores. -/
theorem weigh_apply (B : FVec Ideal S12x640x96 .fp8e4m3) (C : FVec Ideal S12x640x96 .f32) (j : S12x640x96.Idx) :
    mulf (extf .bf16 B bitsLt_fp8e4m3_bf16) (truncf .bf16 C bitsLt_bf16_f32) j = B j * C j := rfl

/-- A value times its scale. -/
theorem scaled_apply (M : FVec Ideal S12x5120x96 .f32) (v : BitVec 32) (j : S12x5120x96.Idx) :
    mulf M (broadcast S12x5120x96 (Scalar.ofBits .f32 v)) j = M j * Ideal.ofBits .f32 v := rfl

/-- The last step at an index. -/
theorem pay_apply (A : Vec Ideal S12x5120x640 .f32) (B : Vec Ideal S12x640x96 .fp8e4m3) (C : Vec Ideal S12x640x96 .f32)
    (b : Fin 3) (S : Fin 640) (j : Fin 3072) : k0_pay1 A B C (ix3 b S j)
      = (∑ k : Fin 640, min ((448 : ℝ) : EReal) (max 0 (A (ix3 ⟨b * 4 + j / 768, by omega⟩ ⟨j / 96 % 8 * 640 + S, by omega⟩ k) * ((256 : ℝ) : EReal)))
          * (B (ix3 ⟨b * 4 + j / 768, by omega⟩ k ⟨j % 96, by omega⟩) * C (ix3 ⟨b * 4 + j / 768, by omega⟩ k ⟨j % 96, by omega⟩))) * ((1 / 256 : ℝ) : EReal) := by
  unfold k0_pay1
  simp only [shapeCast_self]
  rw [lay_apply, scaled_apply, product_apply, Cert.KernelIdeal.Model.ofBits_256th]
  simp only [clamp_apply, weigh_apply, Cert.KernelIdeal.Model.ofBits_448, Cert.KernelIdeal.Model.ofBits_256, Ideal.ofBits_zero_f32]

end Cert.ReferenceIdeal.Read
-- ==== Proof.RefOut.lean ====
module

public import proofs.«01_k».proof.Proof.RefPay
public import proofs.«01_k».proof.Proof.RefDefs
public import Idealize.ShloMosaic.Lib.Pipeline.ValueKit
public import Idealize.ShloMosaic.Lib.Claim

/-! # The reference's result array -/

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Every window's block is its whole array. -/
theorem idx : ∀ t : Fin cfg0.N, win0_0.index t = ![0, 0, 0] ∧ win0_1.index t = ![0, 0, 0] ∧ win0_2.index t = ![0, 0, 0] ∧ win0_3.index t = ![0, 0, 0] :=
  (by decide +kernel : ∀ t : Fin grid0.N, _)

/-- What the last step loads of its operand 0. -/
theorem read0 (t : Fin cfg0.N) (A : FVec Ideal S12x5120x640 .f32) : ((cfg0.win 0).blk t).view.read (Elt Ideal) A = A := by
  blk_ext! [idx t]

/-- What the last step loads of its operand 0. -/
theorem iblk0 (t : Fin cfg0.N) : iblk m c 0 t = w84 m c := read0 t (w84 m c)

/-- What the last step loads of its operand 1. -/
theorem read1 (t : Fin cfg0.N) (A : FVec Ideal S12x640x96 .fp8e4m3) : ((cfg0.win 1).blk t).view.read (Elt Ideal) A = A := by
  blk_ext! [idx t]

/-- What the last step loads of its operand 1. -/
theorem iblk1 (t : Fin cfg0.N) : iblk m c 1 t = w81 m c := read1 t (w81 m c)

/-- What the last step loads of its operand 2. -/
theorem read2 (t : Fin cfg0.N) (A : FVec Ideal S12x640x96 .f32) : ((cfg0.win 2).blk t).view.read (Elt Ideal) A = A := by
  blk_ext! [idx t]

/-- What the last step loads of its operand 2. -/
theorem iblk2 (t : Fin cfg0.N) : iblk m c 2 t = w83 m c := read2 t (w83 m c)

/-- The result array. -/
def out : FVec Ideal S3x640x3072 .bf16 :=
  k0_pay1 (F := Ideal) (show Vec Ideal S12x5120x640 .f32 from w84 m c) (show Vec Ideal S12x640x96 .fp8e4m3 from w81 m c) (show Vec Ideal S12x640x96 .f32 from w83 m c)

/-- The result's block is the whole result. -/
theorem emb3 (t : Fin cfg0.N) (y : ((cfg0.win 3).xblock (cfg0.grid.coords t)).Idx) (A : FVec Ideal S3x640x3072 .bf16) :
    A y = A (((View.whole main_v85).slice (win0_3.rect t)).emb y) := by
  blk_ext [idx t]

/-- After the run the result array is the last step's output. -/
theorem final : (dats m 0 c).arrAt 3 cfg0.N = out m c := by
  refine (dats m 0 c).arrAt_eq_of_covers 3 _ (by decide +kernel) fun t hf y => ?_
  blk_simp
  rw [after0_3]
  unfold out0_3
  frame_out
  rw [iblk0, iblk1, iblk2]
  exact emb3 t y (out m c)

/-- An element of the result: the sum of probability times scaled value, over 256. -/
theorem out_apply (b : Fin 3) (S : Fin 640) (j : Fin 3072) : out m c (ix3 b S j)
      = (∑ k : Fin 640, min ((448 : ℝ) : EReal) (max 0 (w84 m c (ix3 ⟨b * 4 + j / 768, by omega⟩ ⟨j / 96 % 8 * 640 + S, by omega⟩ k) * ((256 : ℝ) : EReal)))
          * (w81 m c (ix3 ⟨b * 4 + j / 768, by omega⟩ k ⟨j % 96, by omega⟩) * w83 m c (ix3 ⟨b * 4 + j / 768, by omega⟩ k ⟨j % 96, by omega⟩))) * ((1 / 256 : ℝ) : EReal) :=
  pay_apply (w84 m c) (w81 m c) (w83 m c) b S j

end Cert.ReferenceIdeal.Read
-- ==== Proof.Join.lean ====
module

public import proofs.«01_k».proof.Proof.Args
public import proofs.«01_k».proof.Proof.Bridge
public import proofs.«01_k».proof.Proof.RefDots
public import proofs.«01_k».proof.Proof.RefLeaf
public import proofs.«01_k».proof.Proof.RefScore
public import proofs.«01_k».proof.Proof.RefSoft
public import proofs.«01_k».proof.Proof.RefMax
public import proofs.«01_k».proof.Proof.RefProb
public import proofs.«01_k».proof.Proof.RefOut

/-! # The reference's result is the kernel's, element by element -/

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.KernelIdeal.Model Cert.KernelIdeal.Bytes

variable (m : (ℓ : Loc nD τ sig) → Buf (Elt Ideal) ℓ) (c : Dev nD)

/-- The reference's arguments. -/
def args : Args := ⟨a0 m c, a1 m c, a2 m c, a3 m c, a4 m c, a5 m c, a6 m c⟩

/-- The kernel's key codes are the arguments' signed nibbles. -/
theorem Kn_args (b : Fin 3) (g : Fin 4) (k : Fin 640) (d : Fin 96) :
    Kn ((args m c).blocks b g) k d = (nibI (hiRow d) (a3 m c (ix4 b k g ⟨byteRow d, byteRow_lt d.2⟩) : BitVec 8) : ℝ) := rfl

/-- The kernel's query codes are the arguments' signed nibbles. -/
theorem Qn_args (b : Fin 3) (g : Fin 4) (h : Fin 8) (S : Fin 640) (d : Fin 96) :
    Qn ((args m c).blocks b g) h S d = (nibI (hiRow d) (a0 m c (ix4 b S ⟨8 * g.val + h.val, head_lt g h⟩ ⟨byteRow d, byteRow_lt d.2⟩) : BitVec 8) : ℝ) := rfl

/-- The kernel's query means are the arguments'. -/
theorem Qm_args (b : Fin 3) (g : Fin 4) (i : Fin 5) (h : Fin 8) (d : Fin 96) :
    Qm ((args m c).blocks b g) i h d = a2 m c (ix4 b i ⟨8 * g.val + h.val, head_lt g h⟩ (feat d)) := rfl

/-- The low nibble. -/
theorem nibI_false (x : BitVec 8) : nibI false x = lowI x := by simp [nibI]

/-- The high nibble. -/
theorem nibI_true (x : BitVec 8) : nibI true x = highI x := by simp [nibI]

/-- There are five blocks of queries. -/
theorem div128_lt (S : Fin 640) : S.val / 128 < 5 := by omega

/-- There are twenty tiles of queries. -/
theorem div32_lt (S : Fin 640) : S.val / 32 < 20 := by omega

/-- The reference's products of even and odd channels add up to the kernel's product of the codes. -/
theorem dot_eq (b : Fin 3) (g : Fin 4) (h : Fin 8) (S k : Fin 640) :
    w48 m c (ix5 b g h S k) + w49 m c (ix5 b g h S k) = ((dotKQ ((args m c).blocks b g) k h S : ℝ) : EReal) := by
  rw [w48_apply, w49_apply]
  simp only [w21_apply, w23_apply, w24_apply, w25_apply]
  rw [dotKQ, ← coe_sum]
  simp only [Kn_args, Qn_args]
  have e := sum_features fun hb r => ((((nibI hb (a3 m c (ix4 b k g r) : BitVec 8) : ℝ) * (nibI hb (a0 m c (ix4 b S ⟨8 * g.val + h.val, head_lt g h⟩ r) : BitVec 8) : ℝ) : ℝ)) : EReal)
  rw [e]
  simp only [nibI_false, nibI_true, EReal.coe_mul]
  refine congrArg₂ (· + ·) (Finset.sum_congr rfl fun r _ => ?_) (Finset.sum_congr rfl fun r _ => ?_)
  · rw [mul_comm]
  · rw [mul_comm]

/-- The reference's products with the query means add up to the kernel's. -/
theorem mean_eq (b : Fin 3) (g : Fin 4) (h : Fin 8) (S k : Fin 640) (i : Fin 5) (hi : i.val = S / 128) :
    btDot ((args m c).blocks b g) i k h = w47 m c (ix5 b g h S k) * ((1 / 512 : ℝ) : EReal) := by
  obtain rfl : i = ⟨S / 128, div128_lt S⟩ := Fin.ext hi
  rw [w47_apply, w39_apply, w42_apply, btDot]
  simp only [w24_apply, w25_apply, w38_apply, w41_apply]
  have e : ∀ d : Fin 96, ((Kn ((args m c).blocks b g) k d * (1 / 512) : ℝ) : EReal) * Qm ((args m c).blocks b g) ⟨S / 128, div128_lt S⟩ h d
      = (((nibI (hiRow d) (a3 m c (ix4 b k g ⟨byteRow d, byteRow_lt d.2⟩) : BitVec 8) : ℝ) : EReal)
          * a2 m c (ix4 b ⟨S / 128, div128_lt S⟩ ⟨8 * g.val + h.val, head_lt g h⟩ (feat d))) * ((1 / 512 : ℝ) : EReal) := by
    intro d
    rw [Kn_args, Qm_args, EReal.coe_mul, mul_assoc, mul_comm ((1 / 512 : ℝ) : EReal), ← mul_assoc]
  rw [Finset.sum_congr rfl fun d _ => e d, sum_mul_coe _ _ _ (by norm_num)]
  congr 1
  have e := sum_features fun hb r => ((nibI hb (a3 m c (ix4 b k g r) : BitVec 8) : ℝ) : EReal)
    * a2 m c (ix4 b ⟨S / 128, div128_lt S⟩ ⟨8 * g.val + h.val, head_lt g h⟩ ⟨2 * r.val + hb.toNat, by have := hb.toNat_le; omega⟩)
  simp only [nibI_false, nibI_true, Bool.toNat_false, Bool.toNat_true, Nat.add_zero] at e
  exact e

/-- The kernel's scores are the reference's, over the logarithm of two. -/
theorem score_eq (h1 : ∀ j, ∃ r : ℝ, a1 m c j = ((r : ℝ) : EReal)) (h4 : ∀ j, ∃ r : ℝ, a4 m c j = ((r : ℝ) : EReal))
    (b : Fin 3) (g : Fin 4) (h : Fin 8) (S k : Fin 640) (t : Fin 20) (q : Fin 32) (ht : t.val = S / 32) (hq : q.val = S % 32) :
    score ((args m c).blocks b g) t h q k = w65 m c (ix5 b g h S k) * (((Real.log 2)⁻¹ : ℝ) : EReal) := by
  have hS : 32 * t.val + q = S := by omega
  rw [score, w65_apply]
  by_cases hk : k.val ≤ S
  · rw [if_pos (by omega), if_pos hk, w57_apply, dot_eq, w32_apply, w36_apply, rsqrt_96]
    rw [mean_eq m c b g h S k ⟨t / 4, by omega⟩ (by show t.val / 4 = _; omega)]
    obtain ⟨q1, e1⟩ := h1 (ix3 b ⟨S / 32, by omega⟩ ⟨8 * g.val + h.val, head_lt g h⟩)
    obtain ⟨k4, e4⟩ := h4 (ix3 b ⟨k / 32, by omega⟩ g)
    have eK : Kt ((args m c).blocks b g) ⟨k / 32, by omega⟩ = ((k4 * (Real.sqrt 96)⁻¹ * (Real.log 2)⁻¹ : ℝ) : EReal) := by
      rw [Kt, ktC_eq, mul_assoc k4, EReal.coe_mul k4, ← e4]
      rfl
    have eQ : Qs ((args m c).blocks b g) t h = ((q1 : ℝ) : EReal) := by
      rw [← e1]
      obtain rfl : t = ⟨S / 32, div32_lt S⟩ := Fin.ext ht
      rfl
    have eS : (⟨32 * t.val + q.val, by omega⟩ : Fin 640) = S := Fin.ext hS
    rw [eK, eQ, eS, e1, e4, ← EReal.coe_mul k4]
    exact score_scale _ _ _ _ _
  · rw [if_neg (by omega), if_neg hk, ofBits_bot, EReal.bot_mul_coe_of_pos (inv_pos.2 (Real.log_pos (by norm_num)))]

/-- The reference's probability of a key, from the masked scores. -/
theorem w84_at (b : Fin 3) (g : Fin 4) (h : Fin 8) (S k : Fin 640) :
    w84 m c (ix3 ⟨b * 4 + g, by omega⟩ ⟨h * 640 + S, by omega⟩ k) = w76 m c (ix5 b g h S k) := by
  rw [w84_apply]
  refine congrArg (w76 m c) ?_
  congr 1
  · exact Fin.ext (by show (b.val * 4 + g.val) / 4 = b.val; omega)
  · exact Fin.ext (by show (b.val * 4 + g.val) % 4 = g.val; omega)
  · exact Fin.ext (by show (h.val * 640 + S.val) / 640 = h.val; omega)
  · exact Fin.ext (by show (h.val * 640 + S.val) % 640 = S.val; omega)

/-- The reference's clipped probability is the kernel's. -/
theorem prob_eq (h1 : ∀ j, ∃ r : ℝ, a1 m c j = ((r : ℝ) : EReal)) (h4 : ∀ j, ∃ r : ℝ, a4 m c j = ((r : ℝ) : EReal))
    (b : Fin 3) (g : Fin 4) (h : Fin 8) (S k : Fin 640) (t : Fin 20) (q : Fin 32) (ht : t.val = S / 32) (hq : q.val = S % 32) :
    prob ((args m c).blocks b g) t h q k
      = min ((448 : ℝ) : EReal) (max 0 (w84 m c (ix3 ⟨b * 4 + g, by omega⟩ ⟨h * 640 + S, by omega⟩ k) * ((256 : ℝ) : EReal))) := by
  rw [w84_at, w76_apply, w73_apply]
  simp only [w72_apply, w70_apply, w68_apply, w66_apply]
  exact prob_scaled _ _ (fun k => score_eq m c h1 h4 b g h S k t q ht hq) k

/-- The reference's scaled value is the kernel's, times 256. -/
theorem value_eq (b : Fin 3) (g : Fin 4) (k : Fin 640) (d : Fin 96) :
    Vw ((args m c).blocks b g) d k = w81 m c (ix3 ⟨b * 4 + g, by omega⟩ k d) * w83 m c (ix3 ⟨b * 4 + g, by omega⟩ k d) * ((1 / 256 : ℝ) : EReal) := by
  have e1 : (⟨(b.val * 4 + g.val) / 4, by omega⟩ : Fin 3) = b := Fin.ext (by show (b.val * 4 + g.val) / 4 = b.val; omega)
  have e2 : (⟨(b.val * 4 + g.val) % 4, by omega⟩ : Fin 4) = g := Fin.ext (by show (b.val * 4 + g.val) % 4 = g.val; omega)
  rw [w81_apply, w83_apply, Vw, mul_assoc]
  dsimp only
  rw [e1, e2]
  rfl

/-- A product of three factors, rotated. -/
theorem mul_rotate' (x y z : EReal) : x * y * z = y * z * x := by rw [mul_assoc, mul_comm]

/-- The reference's result at an index. -/
theorem out_eq (h1 : ∀ j, ∃ r : ℝ, a1 m c j = ((r : ℝ) : EReal)) (h4 : ∀ j, ∃ r : ℝ, a4 m c j = ((r : ℝ) : EReal))
    (b : Fin 3) (S : Fin 640) (j : Fin 3072) :
    out m c (ix3 b S j) = outAt ((args m c).blocks b ⟨j / 768, by omega⟩) ⟨S / 32, by omega⟩ ⟨j / 96 % 8, by omega⟩ ⟨S % 32, by omega⟩ ⟨j % 96, by omega⟩ := by
  rw [out_apply, outAt, ← sum_mul_coe _ _ _ (by norm_num)]
  refine Finset.sum_congr rfl fun k _ => ?_
  rw [value_eq, prob_eq m c h1 h4 b ⟨j / 768, by omega⟩ ⟨j / 96 % 8, by omega⟩ S k _ _ rfl rfl]
  exact mul_rotate' _ _ _

end Cert.ReferenceIdeal.Read
-- ==== Proof.Algebraic.lean ====
module

public import proofs.«01_k».proof.Defs
public import proofs.«01_k».proof.Proof.Gen.Pre_finite_scales
public import proofs.«01_k».proof.Proof.KernelOut
public import proofs.«01_k».proof.Proof.Join

/-! # The kernel's result array is the reference's -/

@[expose] public section

set_option maxRecDepth 16384

noncomputable section

namespace Cert.Proof

open Idealize.ShloMosaic Idealize.ShloMosaic.TcCoe Idealize.SL.Sem

/-- A number whose absolute value is below the pattern of infinity is real. -/
theorem real_of_lt (x : EReal)
    (h : Ideal.cmp .olt (max x (-x)) (Ideal.ofBits .f32 0x7F800000#32) = 1#1) :
    ∃ r : ℝ, x = ((r : ℝ) : EReal) := by
  have hi : Ideal.ofBits .f32 0x7F800000#32 = ⊤ := by simp [Ideal.ofBits, Ideal.ieee]
  rw [hi] at h
  induction x using EReal.rec with
  | bot => exact absurd h (by simp [Ideal.cmp])
  | top => exact absurd h (by simp [Ideal.cmp])
  | coe r => exact ⟨r, rfl⟩

/-- Under the precondition the query scales and the key scales are real. -/
theorem scales_real (m : (ℓ : Loc Cert.KernelIdeal.nD Cert.KernelIdeal.τ Cert.KernelIdeal.sig) → Buf (Elt Ideal) ℓ)
    (hp : Cert.Pre_KernelIdeal_finite_scales m) (c : Dev Cert.KernelIdeal.nD) :
    (∀ j, ∃ r : ℝ, (Cert.KernelIdeal.Model.kargs m c).a1 j = ((r : ℝ) : EReal)) ∧
      ∀ j, ∃ r : ℝ, (Cert.KernelIdeal.Model.kargs m c).a4 j = ((r : ℝ) : EReal) :=
  ⟨fun j => real_of_lt _ (congrFun (hp c).1 j), fun j => real_of_lt _ (congrFun (hp c).2 j)⟩

/-- At `Ideal` the kernel's result array and the reference's agree. -/
theorem algebraic : Cert.algebraic_KernelIdeal_ReferenceIdeal_pre_finite_scales := by
  intro m g m' g' hp he
  refine ⟨fun c => Cert.KernelIdeal.Model.kout m c, ?_, ?_⟩
  · refine (θ_run _ _ _).mono (fun r h c => ?_) (Cert.KernelIdeal.Value.run_blocks m g)
    have := h c
    rw [Cert.KernelIdeal.Model.kfinal] at this
    exact this
  · refine (θ_run _ _ _).mono (fun r h c => ?_) (Cert.ReferenceIdeal.Value.run_blocks m' g')
    obtain ⟨h0, h⟩ := h c
    refine ⟨h0.trans ?_, h⟩
    rw [Cert.ReferenceIdeal.Read.final]
    obtain ⟨e0, e1, e2, e3, e4, e5, e6⟩ := he c
    have ea : Cert.ReferenceIdeal.Read.args m' c = Cert.KernelIdeal.Model.kargs m c := by
      simp only [Cert.ReferenceIdeal.Read.args, Cert.KernelIdeal.Model.kargs, Cert.KernelIdeal.Model.Args.mk.injEq]
      exact ⟨e0, e1, e2, e3, e4, e5, e6⟩
    obtain ⟨h1, h4⟩ := scales_real m hp c
    rw [← ea] at h1 h4
    have hk : ∀ (b : Fin 3) (S : Fin 640) (j : Fin 3072),
        Cert.ReferenceIdeal.Read.out m' c (ix3 b S j) = Cert.KernelIdeal.Model.kout m c (ix3 b S j) := fun b S j =>
      (Cert.ReferenceIdeal.Read.out_eq m' c h1 h4 b S j).trans (by rw [ea]; rfl)
    exact funext fun y => (congrArg (Cert.ReferenceIdeal.Read.out m' c) (eq_ix3 y)).trans
      ((hk _ _ _).trans (congrArg (Cert.KernelIdeal.Model.kout m c) (eq_ix3 y).symm))

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Value
public import proofs.«01_k».proof.Proof.Gen.Pre_finite_scales
public import proofs.«01_k».proof.Proof.Algebraic
public import Idealize.ShloMosaic.Adequacy
public import Idealize.ShloMosaic.Init

@[expose] public section

noncomputable section

namespace Cert.Proof

open Idealize.ShloMosaic Idealize.SL.Sem

/-- All the claims. -/
theorem claim : Cert.Claim :=
  ⟨Cert.Kernel.Gen.facts, Cert.KernelIdeal.Gen.facts, Cert.ReferenceIdeal.Gen.facts, Cert.Pre_finite_scales.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "score_scale_log2e" .f32 0x3E16C740#32 _ rfl,
    algebraic⟩

end Cert.Proof

end
